-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x16384x40x64 : Shape := ⟨4, ![1, 16384, 40, 64]⟩
abbrev S1x16384x40 : Shape := ⟨3, ![1, 16384, 40]⟩
abbrev S1x16384x40x128 : Shape := ⟨4, ![1, 16384, 40, 128]⟩
abbrev S1x40x128x64 : Shape := ⟨4, ![1, 40, 128, 64]⟩
abbrev S_ : Shape := ⟨0, ![]⟩

class Facts : Prop where
  bcast_S_S1x16384x40x64 : S_.BroadcastsInDim S1x16384x40x64 (![] : Fin 0 → Fin S1x16384x40x64.rank)
  bcast_S_S1x16384x40 : S_.BroadcastsInDim S1x16384x40 (![] : Fin 0 → Fin S1x16384x40.rank)
  bcast_S_S1x16384x40x128 : S_.BroadcastsInDim S1x16384x40x128 (![] : Fin 0 → Fin S1x16384x40x128.rank)
  bcast_S_S1x40x128x64 : S_.BroadcastsInDim S1x40x128x64 (![] : Fin 0 → Fin S1x40x128x64.rank)

variable [Facts]

def fn_part1 {F : FTy → Type} [FloatOps F] (main_arg6 : FVec F S1x16384x40x64 .bf16) (main_arg7 : FVec F S1x16384x40x64 .bf16) (main_arg8 : FVec F S1x16384x40x64 .f32) (main_arg9 : FVec F S1x40x128x64 .f32) (main_v2 : IVec S1x16384x40x64 1) (main_v5 : IVec S1x16384x40 1) (main_v8 : IVec S1x16384x40x64 1) (main_v11 : IVec S1x16384x40 1) (main_v14 : IVec S1x16384x40x128 1) (main_v17 : IVec S1x16384x40 1) : IVec S1x16384x40x64 1 × IVec S1x16384x40 1 × IVec S1x16384x40x64 1 × IVec S1x16384x40 1 × IVec S1x16384x40x128 1 × IVec S1x16384x40 1 × IVec S1x16384x40x64 1 × IVec S1x16384x40x64 1 × IVec S1x16384x40x64 1 × IVec S1x40x128x64 1 :=
  let main_v18 : FVec F S1x16384x40x64 .bf16 := Host.absf main_arg6
  let main_cst_5 : FVec F S_ .bf16 := constant S_ .bf16 0x7F80#16
  let main_v19 : FVec F S1x16384x40x64 .bf16 := broadcastInDim S1x16384x40x64 ![] bcast_S_S1x16384x40x64 main_cst_5
  let main_v20 : IVec S1x16384x40x64 1 := cmpf .olt main_v18 main_v19
  let main_v21 : FVec F S1x16384x40x64 .bf16 := Host.absf main_arg7
  let main_cst_6 : FVec F S_ .bf16 := constant S_ .bf16 0x7F80#16
  let main_v22 : FVec F S1x16384x40x64 .bf16 := broadcastInDim S1x16384x40x64 ![] bcast_S_S1x16384x40x64 main_cst_6
  let main_v23 : IVec S1x16384x40x64 1 := cmpf .olt main_v21 main_v22
  let main_v24 : FVec F S1x16384x40x64 .f32 := Host.absf main_arg8
  let main_cst_7 : FVec F S_ .f32 := constant S_ .f32 0x7F800000#32
  let main_v25 : FVec F S1x16384x40x64 .f32 := broadcastInDim S1x16384x40x64 ![] bcast_S_S1x16384x40x64 main_cst_7
  let main_v26 : IVec S1x16384x40x64 1 := cmpf .olt main_v24 main_v25
  let main_v27 : FVec F S1x40x128x64 .f32 := Host.absf main_arg9
  let main_cst_8 : FVec F S_ .f32 := constant S_ .f32 0x7F800000#32
  let main_v28 : FVec F S1x40x128x64 .f32 := broadcastInDim S1x40x128x64 ![] bcast_S_S1x40x128x64 main_cst_8
  let main_v29 : IVec S1x40x128x64 1 := cmpf .olt main_v27 main_v28
  (main_v2, main_v5, main_v8, main_v11, main_v14, main_v17, main_v20, main_v23, main_v26, main_v29)

def fn {F : FTy → Type} [FloatOps F] (main_arg0 : FVec F S1x16384x40x64 .f32) (main_arg1 : FVec F S1x16384x40 .f32) (main_arg2 : FVec F S1x16384x40x64 .f32) (main_arg3 : FVec F S1x16384x40 .f32) (main_arg4 : FVec F S1x16384x40x128 .f32) (main_arg5 : FVec F S1x16384x40 .f32) (main_arg6 : FVec F S1x16384x40x64 .bf16) (main_arg7 : FVec F S1x16384x40x64 .bf16) (main_arg8 : FVec F S1x16384x40x64 .f32) (main_arg9 : FVec F S1x40x128x64 .f32) : IVec S1x16384x40x64 1 × IVec S1x16384x40 1 × IVec S1x16384x40x64 1 × IVec S1x16384x40 1 × IVec S1x16384x40x128 1 × IVec S1x16384x40 1 × IVec S1x16384x40x64 1 × IVec S1x16384x40x64 1 × IVec S1x16384x40x64 1 × IVec S1x40x128x64 1 :=
  let main_v0 : FVec F S1x16384x40x64 .f32 := Host.absf main_arg0
  let main_cst : FVec F S_ .f32 := constant S_ .f32 0x7F800000#32
  let main_v1 : FVec F S1x16384x40x64 .f32 := broadcastInDim S1x16384x40x64 ![] bcast_S_S1x16384x40x64 main_cst
  let main_v2 : IVec S1x16384x40x64 1 := cmpf .olt main_v0 main_v1
  let main_v3 : FVec F S1x16384x40 .f32 := Host.absf main_arg1
  let main_cst_0 : FVec F S_ .f32 := constant S_ .f32 0x7F800000#32
  let main_v4 : FVec F S1x16384x40 .f32 := broadcastInDim S1x16384x40 ![] bcast_S_S1x16384x40 main_cst_0
  let main_v5 : IVec S1x16384x40 1 := cmpf .olt main_v3 main_v4
  let main_v6 : FVec F S1x16384x40x64 .f32 := Host.absf main_arg2
  let main_cst_1 : FVec F S_ .f32 := constant S_ .f32 0x7F800000#32
  let main_v7 : FVec F S1x16384x40x64 .f32 := broadcastInDim S1x16384x40x64 ![] bcast_S_S1x16384x40x64 main_cst_1
  let main_v8 : IVec S1x16384x40x64 1 := cmpf .olt main_v6 main_v7
  let main_v9 : FVec F S1x16384x40 .f32 := Host.absf main_arg3
  let main_cst_2 : FVec F S_ .f32 := constant S_ .f32 0x7F800000#32
  let main_v10 : FVec F S1x16384x40 .f32 := broadcastInDim S1x16384x40 ![] bcast_S_S1x16384x40 main_cst_2
  let main_v11 : IVec S1x16384x40 1 := cmpf .olt main_v9 main_v10
  let main_v12 : FVec F S1x16384x40x128 .f32 := Host.absf main_arg4
  let main_cst_3 : FVec F S_ .f32 := constant S_ .f32 0x7F800000#32
  let main_v13 : FVec F S1x16384x40x128 .f32 := broadcastInDim S1x16384x40x128 ![] bcast_S_S1x16384x40x128 main_cst_3
  let main_v14 : IVec S1x16384x40x128 1 := cmpf .olt main_v12 main_v13
  let main_v15 : FVec F S1x16384x40 .f32 := Host.absf main_arg5
  let main_cst_4 : FVec F S_ .f32 := constant S_ .f32 0x7F800000#32
  let main_v16 : FVec F S1x16384x40 .f32 := broadcastInDim S1x16384x40 ![] bcast_S_S1x16384x40 main_cst_4
  let main_v17 : IVec S1x16384x40 1 := cmpf .olt main_v15 main_v16
  fn_part1 (F := F) main_arg6 main_arg7 main_arg8 main_arg9 main_v2 main_v5 main_v8 main_v11 main_v14 main_v17
-- ==== Kernel.lean ====
abbrev S1x16384x40x64 : Shape := ⟨4, ![1, 16384, 40, 64]⟩
abbrev S1x16384x40 : Shape := ⟨3, ![1, 16384, 40]⟩
abbrev S1x16384x40x128 : Shape := ⟨4, ![1, 16384, 40, 128]⟩
abbrev S1x40x128x64 : Shape := ⟨4, ![1, 40, 128, 64]⟩
abbrev S16384x2560 : Shape := ⟨2, ![16384, 2560]⟩
abbrev S16384x5120 : Shape := ⟨2, ![16384, 5120]⟩
abbrev S16384x40 : Shape := ⟨2, ![16384, 40]⟩
abbrev S40x16384 : Shape := ⟨2, ![40, 16384]⟩
abbrev S40x128x64 : Shape := ⟨3, ![40, 128, 64]⟩
abbrev S128x512 : Shape := ⟨2, ![128, 512]⟩
abbrev S128x1024 : Shape := ⟨2, ![128, 1024]⟩
abbrev S8x128 : Shape := ⟨2, ![8, 128]⟩
abbrev S8x128x64 : Shape := ⟨3, ![8, 128, 64]⟩
abbrev S8x64x128 : Shape := ⟨3, ![8, 64, 128]⟩
abbrev S1x128x64 : Shape := ⟨3, ![1, 128, 64]⟩
abbrev S128x64 : Shape := ⟨2, ![128, 64]⟩
abbrev S64x128 : Shape := ⟨2, ![64, 128]⟩
abbrev S1x64x128 : Shape := ⟨3, ![1, 64, 128]⟩
abbrev S128x8 : Shape := ⟨2, ![128, 8]⟩
abbrev S64x64 : Shape := ⟨2, ![64, 64]⟩
abbrev S64x1 : Shape := ⟨2, ![64, 1]⟩
abbrev S1x64 : Shape := ⟨2, ![1, 64]⟩
abbrev S128x128 : Shape := ⟨2, ![128, 128]⟩

abbrev nBuf : Space → Nat
  | .hbm => 28
  | .vmem => 25
  | .smem => 0
  | _ => 0

abbrev bufTy : (tb : Table) → Fin (tcTables nBuf tb) → BufTy
  | .hbm, ⟨0, _⟩ => ⟨S1x16384x40x64, .f32⟩
  | .hbm, ⟨1, _⟩ => ⟨S1x16384x40, .f32⟩
  | .hbm, ⟨2, _⟩ => ⟨S1x16384x40x64, .f32⟩
  | .hbm, ⟨3, _⟩ => ⟨S1x16384x40, .f32⟩
  | .hbm, ⟨4, _⟩ => ⟨S1x16384x40x128, .f32⟩
  | .hbm, ⟨5, _⟩ => ⟨S1x16384x40, .f32⟩
  | .hbm, ⟨6, _⟩ => ⟨S1x16384x40x64, .bf16⟩
  | .hbm, ⟨7, _⟩ => ⟨S1x16384x40x64, .bf16⟩
  | .hbm, ⟨8, _⟩ => ⟨S1x16384x40x64, .f32⟩
  | .hbm, ⟨9, _⟩ => ⟨S1x40x128x64, .f32⟩
  | .hbm, ⟨10, _⟩ => ⟨S1x16384x40x64, .fp8e4m3⟩
  | .hbm, ⟨11, _⟩ => ⟨S16384x2560, .fp8e4m3⟩
  | .hbm, ⟨12, _⟩ => ⟨S1x16384x40x64, .fp8e4m3⟩
  | .hbm, ⟨13, _⟩ => ⟨S16384x2560, .fp8e4m3⟩
  | .hbm, ⟨14, _⟩ => ⟨S1x16384x40x128, .fp8e4m3⟩
  | .hbm, ⟨15, _⟩ => ⟨S16384x5120, .fp8e4m3⟩
  | .hbm, ⟨16, _⟩ => ⟨S16384x2560, .bf16⟩
  | .hbm, ⟨17, _⟩ => ⟨S16384x2560, .bf16⟩
  | .hbm, ⟨18, _⟩ => ⟨S16384x2560, .f32⟩
  | .hbm, ⟨19, _⟩ => ⟨S16384x40, .f32⟩
  | .hbm, ⟨20, _⟩ => ⟨S40x16384, .f32⟩
  | .hbm, ⟨21, _⟩ => ⟨S16384x40, .f32⟩
  | .hbm, ⟨22, _⟩ => ⟨S40x16384, .f32⟩
  | .hbm, ⟨23, _⟩ => ⟨S16384x40, .f32⟩
  | .hbm, ⟨24, _⟩ => ⟨S40x16384, .f32⟩
  | .hbm, ⟨25, _⟩ => ⟨S40x128x64, .f32⟩
  | .hbm, ⟨26, _⟩ => ⟨S16384x5120, .bf16⟩
  | .hbm, ⟨27, _⟩ => ⟨S40x128x64, .f32⟩
  | .local _ .vmem, ⟨0, _⟩ => ⟨S128x512, .fp8e4m3⟩
  | .local _ .vmem, ⟨1, _⟩ => ⟨S128x512, .fp8e4m3⟩
  | .local _ .vmem, ⟨2, _⟩ => ⟨S128x512, .fp8e4m3⟩
  | .local _ .vmem, ⟨3, _⟩ => ⟨S128x512, .fp8e4m3⟩
  | .local _ .vmem, ⟨4, _⟩ => ⟨S128x1024, .fp8e4m3⟩
  | .local _ .vmem, ⟨5, _⟩ => ⟨S128x1024, .fp8e4m3⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .f32⟩
  | .local _ .vmem, ⟨11, _⟩ => ⟨S128x512, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S8x128x64, .f32⟩
  | .local _ .vmem, ⟨19, _⟩ => ⟨S8x128x64, .f32⟩
  | .local _ .vmem, ⟨20, _⟩ => ⟨S128x1024, .bf16⟩
  | .local _ .vmem, ⟨21, _⟩ => ⟨S128x1024, .bf16⟩
  | .local _ .vmem, ⟨22, _⟩ => ⟨S8x128x64, .f32⟩
  | .local _ .vmem, ⟨23, _⟩ => ⟨S8x128x64, .f32⟩
  | .local _ .vmem, ⟨24, _⟩ => ⟨S8x64x128, .f32⟩
  | _, _ => ⟨S1x16384x40x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![5, 128], ![false, false]⟩

def k0_cond2 (i : grid0.Coords) : BitVec 1 :=
  let arg1 : BitVec 32 := BitVec.ofNat 32 (i 1).val
  let c127_i32 : BitVec 32 := 127#32
  let v2396 : BitVec 1 := Scalar.cmpi .eq arg1 c127_i32
  let v2397 : BitVec 32 := Scalar.extui v2396
  let c0_i32_941 : BitVec 32 := 0#32
  let v2398 : BitVec 1 := Scalar.cmpi .ne v2397 c0_i32_941
  v2398

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S1x16384x40x64 : Shape := ⟨4, ![1, 16384, 40, 64]⟩
abbrev S1x16384x40 : Shape := ⟨3, ![1, 16384, 40]⟩
abbrev S1x16384x40x128 : Shape := ⟨4, ![1, 16384, 40, 128]⟩
abbrev S1x40x128x64 : Shape := ⟨4, ![1, 40, 128, 64]⟩
abbrev S16384x5120 : Shape := ⟨2, ![16384, 5120]⟩
abbrev S40x128x64 : Shape := ⟨3, ![40, 128, 64]⟩
abbrev S1x1x40x64 : Shape := ⟨4, ![1, 1, 40, 64]⟩
abbrev S40x64 : Shape := ⟨2, ![40, 64]⟩
abbrev S1x1x40 : Shape := ⟨3, ![1, 1, 40]⟩
abbrev S40 : Shape := ⟨1, ![40]⟩
abbrev S40x1 : Shape := ⟨2, ![40, 1]⟩
abbrev S1x1x40x128 : Shape := ⟨4, ![1, 1, 40, 128]⟩
abbrev S40x128 : Shape := ⟨2, ![40, 128]⟩
abbrev S40x1x64 : Shape := ⟨3, ![40, 1, 64]⟩
abbrev S40x128x1 : Shape := ⟨3, ![40, 128, 1]⟩
abbrev S1x5120 : Shape := ⟨2, ![1, 5120]⟩
abbrev S2x5120 : Shape := ⟨2, ![2, 5120]⟩

abbrev nBuf : Space → Nat
  | .hbm => 15
  | .vmem => 12
  | .smem => 0
  | _ => 0

abbrev bufTy : (tb : Table) → Fin (tcTables nBuf tb) → BufTy
  | .hbm, ⟨0, _⟩ => ⟨S1x16384x40x64, .f32⟩
  | .hbm, ⟨1, _⟩ => ⟨S1x16384x40, .f32⟩
  | .hbm, ⟨2, _⟩ => ⟨S1x16384x40x64, .f32⟩
  | .hbm, ⟨3, _⟩ => ⟨S1x16384x40, .f32⟩
  | .hbm, ⟨4, _⟩ => ⟨S1x16384x40x128, .f32⟩
  | .hbm, ⟨5, _⟩ => ⟨S1x16384x40, .f32⟩
  | .hbm, ⟨6, _⟩ => ⟨S1x16384x40x64, .bf16⟩
  | .hbm, ⟨7, _⟩ => ⟨S1x16384x40x64, .bf16⟩
  | .hbm, ⟨8, _⟩ => ⟨S1x16384x40x64, .f32⟩
  | .hbm, ⟨9, _⟩ => ⟨S1x40x128x64, .f32⟩
  | .hbm, ⟨10, _⟩ => ⟨S1x16384x40x64, .fp8e4m3⟩
  | .hbm, ⟨11, _⟩ => ⟨S1x16384x40x64, .fp8e4m3⟩
  | .hbm, ⟨12, _⟩ => ⟨S1x16384x40x128, .fp8e4m3⟩
  | .hbm, ⟨13, _⟩ => ⟨S16384x5120, .bf16⟩
  | .hbm, ⟨14, _⟩ => ⟨S40x128x64, .f32⟩
  | .local _ .vmem, ⟨0, _⟩ => ⟨S1x16384x40x64, .fp8e4m3⟩
  | .local _ .vmem, ⟨1, _⟩ => ⟨S1x16384x40, .f32⟩
  | .local _ .vmem, ⟨2, _⟩ => ⟨S1x16384x40x64, .fp8e4m3⟩
  | .local _ .vmem, ⟨3, _⟩ => ⟨S1x16384x40, .f32⟩
  | .local _ .vmem, ⟨4, _⟩ => ⟨S1x16384x40x128, .fp8e4m3⟩
  | .local _ .vmem, ⟨5, _⟩ => ⟨S1x16384x40, .f32⟩
  | .local _ .vmem, ⟨6, _⟩ => ⟨S1x16384x40x64, .bf16⟩
  | .local _ .vmem, ⟨7, _⟩ => ⟨S1x16384x40x64, .bf16⟩
  | .local _ .vmem, ⟨8, _⟩ => ⟨S1x16384x40x64, .f32⟩
  | .local _ .vmem, ⟨9, _⟩ => ⟨S1x40x128x64, .f32⟩
  | .local _ .vmem, ⟨10, _⟩ => ⟨S16384x5120, .bf16⟩
  | .local _ .vmem, ⟨11, _⟩ => ⟨S40x128x64, .f32⟩
  | _, _ => ⟨S1x16384x40x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8192_i32 : BitVec 32 := 8192#32
  let v2 : BitVec 32 := Scalar.addi c0_i32 c8192_i32
  let c1_i32 : BitVec 32 := 1#32
  ⟨c0_i32, v2, c1_i32⟩
def k0_off1 (k0_t1 : Fin k0_t1_loop.trips) : Fin 4 → Nat :=
  let c0_7 : Index := 0#32
  let c2_i32 : BitVec 32 := 2#32
  let c0_i32 : BitVec 32 := 0#32
  let c1_i32 : BitVec 32 := 1#32
  let arg12 : BitVec 32 := Scf.iv c0_i32 c1_i32 k0_t1
  let v5 : BitVec 32 := Scalar.muli c2_i32 arg12
  let v6 : Index := Scalar.indexCast v5
  let c0_8 : Index := 0#32
  let c0_9 : Index := 0#32
  ![0, v6.toNat, 0, 0]
def k0_off2 (k0_t1 : Fin k0_t1_loop.trips) : Fin 3 → Nat :=
  let c0_10 : Index := 0#32
  let c2_i32 : BitVec 32 := 2#32
  let c0_i32 : BitVec 32 := 0#32
  let c1_i32 : BitVec 32 := 1#32
  let arg12 : BitVec 32 := Scf.iv c0_i32 c1_i32 k0_t1
  let v5 : BitVec 32 := Scalar.muli c2_i32 arg12
  let v10 : Index := Scalar.indexCast v5
  let c0_11 : Index := 0#32
  ![0, v10.toNat, 0]
def k0_off3 (k0_t1 : Fin k0_t1_loop.trips) : Fin 4 → Nat :=
  let c0_17 : Index := 0#32
  let c2_i32 : BitVec 32 := 2#32
  let c0_i32 : BitVec 32 := 0#32
  let c1_i32 : BitVec 32 := 1#32
  let arg12 : BitVec 32 := Scf.iv c0_i32 c1_i32 k0_t1
  let v5 : BitVec 32 := Scalar.muli c2_i32 arg12
  let v26 : Index := Scalar.indexCast v5
  let c0_18 : Index := 0#32
  let c0_19 : Index := 0#32
  ![0, v26.toNat, 0, 0]
def k0_off4 (k0_t1 : Fin k0_t1_loop.trips) : Fin 4 → Nat :=
  let c0_34 : Index := 0#32
  let c2_i32_32 : BitVec 32 := 2#32
  let c0_i32 : BitVec 32 := 0#32
  let c1_i32 : BitVec 32 := 1#32
  let arg12 : BitVec 32 := Scf.iv c0_i32 c1_i32 k0_t1
  let v72 : BitVec 32 := Scalar.muli c2_i32_32 arg12
  let c1_i32_33 : BitVec 32 := 1#32
  let v73 : BitVec 32 := Scalar.addi v72 c1_i32_33
  let v74 : Index := Scalar.indexCast v73
  let c0_35 : Index := 0#32
  let c0_36 : Index := 0#32
  ![0, v74.toNat, 0, 0]
def k0_off5 (k0_t1 : Fin k0_t1_loop.trips) : Fin 3 → Nat :=
  let c0_37 : Index := 0#32
  let c2_i32_32 : BitVec 32 := 2#32
  let c0_i32 : BitVec 32 := 0#32
  let c1_i32 : BitVec 32 := 1#32
  let arg12 : BitVec 32 := Scf.iv c0_i32 c1_i32 k0_t1
  let v72 : BitVec 32 := Scalar.muli c2_i32_32 arg12
  let c1_i32_33 : BitVec 32 := 1#32
  let v73 : BitVec 32 := Scalar.addi v72 c1_i32_33
  let v78 : Index := Scalar.indexCast v73
  let c0_38 : Index := 0#32
  ![0, v78.toNat, 0]
def k0_off6 (k0_t1 : Fin k0_t1_loop.trips) : Fin 4 → Nat :=
  let c0_44 : Index := 0#32
  let c2_i32_32 : BitVec 32 := 2#32
  let c0_i32 : BitVec 32 := 0#32
  let c1_i32 : BitVec 32 := 1#32
  let arg12 : BitVec 32 := Scf.iv c0_i32 c1_i32 k0_t1
  let v72 : BitVec 32 := Scalar.muli c2_i32_32 arg12
  let c1_i32_33 : BitVec 32 := 1#32
  let v73 : BitVec 32 := Scalar.addi v72 c1_i32_33
  let v94 : Index := Scalar.indexCast v73
  let c0_45 : Index := 0#32
  let c0_46 : Index := 0#32
  ![0, v94.toNat, 0, 0]
def k0_off7 (k0_t1 : Fin k0_t1_loop.trips) : Fin 2 → Nat :=
  let c2_i32_60 : BitVec 32 := 2#32
  let c0_i32 : BitVec 32 := 0#32
  let c1_i32 : BitVec 32 := 1#32
  let arg12 : BitVec 32 := Scf.iv c0_i32 c1_i32 k0_t1
  let v142 : BitVec 32 := Scalar.muli c2_i32_60 arg12
  let v143 : Index := Scalar.indexCast v142
  let c0_61 : Index := 0#32
  ![v143.toNat, 0]
abbrev stage0_0 : Fin 1 → Memref sig .tc .vmem S1x16384x40x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16384x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16384x40x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16384x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16384x40x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16384x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16384x40x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x16384x40x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x16384x40x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x40x128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16384x5120 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S40x128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Chunk.lean ====
/- The recurrence over the real numbers, one head: what the chunked form computes for a chunk of `C` tokens is what the
   recurrence taken token by token computes. Pure mathematics: no program is mentioned here. -/
module

public import Mathlib.Analysis.SpecialFunctions.Exp
public import Mathlib.Data.Matrix.Mul
public import Mathlib.Algebra.BigOperators.Fin
public import Mathlib.Tactic.Ring
public import Mathlib.Tactic.NoncommRing
public import Mathlib.Tactic.Abel
public import Mathlib.Tactic.Linarith

@[expose] public section

noncomputable section

namespace Cert.Rec

open Matrix

variable {C K V : ℕ}

/-! ## Token by token -/

/-- One token: the state `S` (keys by values) decays by `exp w`, and takes `b (S a)ᵀ` and `k vᵀ`. -/
def stp (a b k w : Fin K → ℝ) (v : Fin V → ℝ) (S : Matrix (Fin K) (Fin V) ℝ) : Matrix (Fin K) (Fin V) ℝ :=
  fun x y => S x y * Real.exp (w x) + (∑ z, S z y * a z) * b x + v y * k x

/-- The state before token `n`, from the state `S` before token 0. -/
def st (a b k w : ℕ → Fin K → ℝ) (v : ℕ → Fin V → ℝ) (S : Matrix (Fin K) (Fin V) ℝ) : ℕ → Matrix (Fin K) (Fin V) ℝ
  | 0 => S
  | n + 1 => stp (a n) (b n) (k n) (w n) (v n) (st a b k w v S n)

/-- The output of token `n`: the state after it, applied to its `r`. -/
def out (r a b k w : ℕ → Fin K → ℝ) (v : ℕ → Fin V → ℝ) (S : Matrix (Fin K) (Fin V) ℝ) (n : ℕ) (y : Fin V) : ℝ :=
  ∑ x, st a b k w v S (n + 1) x y * r n x

/-- The recurrence can be cut anywhere: the state at `p + n` is the state at `n` of the tokens from `p` on, from the state at `p`. -/
theorem st_add (a b k w : ℕ → Fin K → ℝ) (v : ℕ → Fin V → ℝ) (S : Matrix (Fin K) (Fin V) ℝ) (p n : ℕ) :
    st a b k w v S (p + n) = st (fun i => a (p + i)) (fun i => b (p + i)) (fun i => k (p + i)) (fun i => w (p + i))
      (fun i => v (p + i)) (st a b k w v S p) n := by
  induction n with
  | zero => rfl
  | succ n ih => rw [← Nat.add_assoc, st, st, ih]

theorem out_add (r a b k w : ℕ → Fin K → ℝ) (v : ℕ → Fin V → ℝ) (S : Matrix (Fin K) (Fin V) ℝ) (p n : ℕ) (y : Fin V) :
    out r a b k w v S (p + n) y = out (fun i => r (p + i)) (fun i => a (p + i)) (fun i => b (p + i)) (fun i => k (p + i))
      (fun i => w (p + i)) (fun i => v (p + i)) (st a b k w v S p) n y := by
  rw [out, out, Nat.add_assoc, st_add]

/-! ## In closed form within a chunk -/

/-- The decays' logarithms summed over the tokens before `n`. -/
def cum (w : ℕ → Fin K → ℝ) (n : ℕ) (x : Fin K) : ℝ := ∑ j ∈ Finset.range n, w j x

/-- `S a` at token `n`. -/
def sa (a b k w : ℕ → Fin K → ℝ) (v : ℕ → Fin V → ℝ) (S : Matrix (Fin K) (Fin V) ℝ) (n : ℕ) (y : Fin V) : ℝ :=
  ∑ z, st a b k w v S n z y * a n z

theorem st_closed (a b k w : ℕ → Fin K → ℝ) (v : ℕ → Fin V → ℝ) (S : Matrix (Fin K) (Fin V) ℝ) (n : ℕ) (x : Fin K) (y : Fin V) :
    st a b k w v S n x y = Real.exp (cum w n x) * (S x y + ∑ j ∈ Finset.range n,
      Real.exp (-cum w (j + 1) x) * (b j x * sa a b k w v S j y + k j x * v j y)) := by
  induction n with
  | zero => simp [st, cum]
  | succ n ih =>
    have h1 : cum w (n + 1) x = cum w n x + w n x := by rw [cum, Finset.sum_range_succ]; rfl
    have h2 : Real.exp (cum w (n + 1) x) * Real.exp (-cum w (n + 1) x) = 1 := by rw [← Real.exp_add]; simp
    rw [Finset.sum_range_succ, ← add_assoc, mul_add, ← mul_assoc (Real.exp (cum w (n + 1) x)) (Real.exp (-cum w (n + 1) x)), h2,
      one_mul, h1, Real.exp_add, mul_right_comm, ← ih]
    show stp _ _ _ _ _ _ x y = _
    rw [stp, sa]; ring

/-- A sum over the tokens before `n` of a chunk, as a sum over the chunk under the mask. -/
theorem sum_range_mask (f : ℕ → ℝ) (n : ℕ) (hn : n ≤ C) :
    ∑ j ∈ Finset.range n, f j = ∑ j : Fin C, if j.val < n then f j.val else 0 := by
  rw [Fin.sum_univ_eq_sum_range (fun j => if j < n then f j else 0) C, ← Finset.sum_filter]
  congr 1; ext j; simp only [Finset.mem_range, Finset.mem_filter]; omega

/-! ## The chunked form -/

/-- The tokens `0 … C-1` of a sequence, as a matrix. -/
def rows (C : ℕ) {K : ℕ} (f : ℕ → Fin K → ℝ) : Matrix (Fin C) (Fin K) ℝ := fun i x => f i.val x

/-- The inclusive running sum of the chunk's decays' logarithms. -/
def runSum (w : Matrix (Fin C) (Fin K) ℝ) : Matrix (Fin C) (Fin K) ℝ := fun i x => ∑ j : Fin C, if j.val < i.val + 1 then w j x else 0

theorem runSum_rows (w : ℕ → Fin K → ℝ) (i : Fin C) (x : Fin K) : runSum (rows C w) i x = cum w (i.val + 1) x :=
  (sum_range_mask (fun j => w j x) _ i.isLt).symm

/-- A matrix kept where the column is a token before the row's (`s = 0`), or before it or the row's itself (`s = 1`). -/
def mask (s : ℕ) (A : Matrix (Fin C) (Fin C) ℝ) : Matrix (Fin C) (Fin C) ℝ := fun i j => if j.val < i.val + s then A i j else 0

variable (T : Matrix (Fin C) (Fin C) ℝ) (r a b k w : Matrix (Fin C) (Fin K) ℝ) (v : Matrix (Fin C) (Fin V) ℝ) (S : Matrix (Fin K) (Fin V) ℝ)

def aT : Matrix (Fin C) (Fin K) ℝ := fun i x => a i x * Real.exp (runSum w i x - w i x)
def rT : Matrix (Fin C) (Fin K) ℝ := fun i x => r i x * Real.exp (runSum w i x)
def neg (b : Matrix (Fin C) (Fin K) ℝ) : Matrix (Fin C) (Fin K) ℝ := fun i x => b i x * Real.exp (-runSum w i x)
def tail (G : Fin K → ℝ) (b : Matrix (Fin C) (Fin K) ℝ) : Matrix (Fin C) (Fin K) ℝ := fun i x => b i x * Real.exp (G x - runSum w i x)

/-- The chunk's outputs, in the chunked form with `T` for the inverse. -/
def chunkOut : Matrix (Fin C) (Fin V) ℝ :=
  (rT r w + mask 1 (rT r w * (neg w b)ᵀ) * (T * aT a w)) * S
    + (mask 1 (rT r w * (neg w k)ᵀ) + mask 1 (rT r w * (neg w b)ᵀ) * (T * mask 0 (aT a w * (neg w k)ᵀ))) * v

/-- The state after the chunk, in the chunked form with `T` for the inverse and `G` for the chunk's whole decay. -/
def chunkSt (G : Fin K → ℝ) : Matrix (Fin K) (Fin V) ℝ :=
  (Matrix.diagonal (fun x => Real.exp (G x)) + (tail w G b)ᵀ * (T * aT a w)) * S
    + ((tail w G k)ᵀ + (tail w G b)ᵀ * (T * mask 0 (aT a w * (neg w k)ᵀ))) * v

theorem chunkOut_eq : chunkOut T r a b k w v S = rT r w * S + mask 1 (rT r w * (neg w k)ᵀ) * v
    + mask 1 (rT r w * (neg w b)ᵀ) * (T * (aT a w * S + mask 0 (aT a w * (neg w k)ᵀ) * v)) := by
  simp only [chunkOut, Matrix.add_mul, Matrix.mul_add, Matrix.mul_assoc]; abel

theorem chunkSt_eq (G : Fin K → ℝ) : chunkSt T a b k w v S G = Matrix.diagonal (fun x => Real.exp (G x)) * S + (tail w G k)ᵀ * v
    + (tail w G b)ᵀ * (T * (aT a w * S + mask 0 (aT a w * (neg w k)ᵀ) * v)) := by
  simp only [chunkSt, Matrix.add_mul, Matrix.mul_add, Matrix.mul_assoc]; abel

/-! ## The two agree -/

section Agree
variable (r a b k w : ℕ → Fin K → ℝ) (v : ℕ → Fin V → ℝ)

/-- `S a` at the chunk's tokens, as a matrix. -/
def saM (C : ℕ) : Matrix (Fin C) (Fin V) ℝ := fun i y => sa a b k w v S i.val y

/-- A vector `q` at token `i`, scaled by the decays before it, applied to the state before it (`s = 0`) or after it (`s = 1`). -/
theorem apply_st (q : Fin K → ℝ) (i : Fin C) (s : ℕ) (hs : s ≤ 1) (y : Fin V) :
    ∑ x, st a b k w v S (i.val + s) x y * q x
      = ∑ x, q x * Real.exp (cum w (i.val + s) x) * S x y
        + ∑ j : Fin C, (if j.val < i.val + s then ∑ x, q x * Real.exp (cum w (i.val + s) x) * neg (rows C w) (rows C k) j x else 0) * v j.val y
        + ∑ j : Fin C, (if j.val < i.val + s then ∑ x, q x * Real.exp (cum w (i.val + s) x) * neg (rows C w) (rows C b) j x else 0) * saM S a b k w v C j y := by
  have hn : i.val + s ≤ C := by have := i.isLt; omega
  rw [add_assoc, ← Finset.sum_add_distrib]
  simp only [ite_mul, zero_mul]
  have : ∀ j : Fin C, (if j.val < i.val + s then (∑ x, q x * Real.exp (cum w (i.val + s) x) * neg (rows C w) (rows C k) j x) * v j.val y else 0)
      + (if j.val < i.val + s then (∑ x, q x * Real.exp (cum w (i.val + s) x) * neg (rows C w) (rows C b) j x) * saM S a b k w v C j y else 0)
      = ∑ x, q x * Real.exp (cum w (i.val + s) x) * (if j.val < i.val + s then
          Real.exp (-cum w (j.val + 1) x) * (b j.val x * sa a b k w v S j.val y + k j.val x * v j.val y) else 0) := by
    intro j
    split
    · rw [Finset.sum_mul, Finset.sum_mul, ← Finset.sum_add_distrib]
      refine Finset.sum_congr rfl fun x _ => ?_
      simp only [neg, runSum_rows, saM, rows]; ring
    · simp
  rw [Finset.sum_congr rfl fun j _ => this j, Finset.sum_comm, ← Finset.sum_add_distrib]
  refine Finset.sum_congr rfl fun x _ => ?_
  rw [st_closed, sum_range_mask (C := C) _ _ hn, ← Finset.mul_sum]; ring

theorem cum_succ_sub (i : ℕ) (x : Fin K) : cum w (i + 1) x - w i x = cum w i x := by
  rw [cum, Finset.sum_range_succ]; simp [cum]

/-- The system the chunk solves: `(1 - A) U = a S + A' v`. -/
theorem saM_eq : saM S a b k w v C = aT (rows C a) (rows C w) * S
    + mask 0 (aT (rows C a) (rows C w) * (neg (rows C w) (rows C k))ᵀ) * rows C v
    + mask 0 (aT (rows C a) (rows C w) * (neg (rows C w) (rows C b))ᵀ) * saM S a b k w v C := by
  ext i y
  have h := apply_st S a b k w v (a i.val) i 0 (by omega) y
  simp only [Matrix.add_apply, Matrix.mul_apply, mask, aT, Matrix.transpose_apply, runSum_rows, rows, cum_succ_sub]
  exact h

variable (T : Matrix (Fin C) (Fin C) ℝ)
  (hT : T * (1 - mask 0 (aT (rows C a) (rows C w) * (neg (rows C w) (rows C b))ᵀ)) = 1)
include hT

theorem solve : T * (aT (rows C a) (rows C w) * S + mask 0 (aT (rows C a) (rows C w) * (neg (rows C w) (rows C k))ᵀ) * rows C v)
    = saM S a b k w v C := by
  have h : aT (rows C a) (rows C w) * S + mask 0 (aT (rows C a) (rows C w) * (neg (rows C w) (rows C k))ᵀ) * rows C v
      = (1 - mask 0 (aT (rows C a) (rows C w) * (neg (rows C w) (rows C b))ᵀ)) * saM S a b k w v C := by
    rw [Matrix.sub_mul, Matrix.one_mul, eq_sub_iff_add_eq]; exact (saM_eq S a b k w v).symm
  rw [h, ← Matrix.mul_assoc, hT, Matrix.one_mul]

/-- The chunk's outputs are the recurrence's. -/
theorem chunkOut_out (i : Fin C) (y : Fin V) :
    chunkOut T (rows C r) (rows C a) (rows C b) (rows C k) (rows C w) (rows C v) S i y = out r a b k w v S i.val y := by
  have h := apply_st S a b k w v (r i.val) i 1 (by omega) y
  rw [chunkOut_eq, solve S a b k w v T hT, out, h]
  simp only [Matrix.add_apply, Matrix.mul_apply, mask, rT, Matrix.transpose_apply, runSum_rows, rows]

/-- The state after the chunk is the recurrence's after its `C` tokens. -/
theorem chunkSt_st (x : Fin K) (y : Fin V) :
    chunkSt T (rows C a) (rows C b) (rows C k) (rows C w) (rows C v) S (cum w C) x y = st a b k w v S C x y := by
  rw [chunkSt_eq, solve S a b k w v T hT, st_closed, sum_range_mask (C := C) _ C le_rfl]
  simp only [Matrix.add_apply, Matrix.mul_apply, Matrix.diagonal_apply, ite_mul, zero_mul, Finset.sum_ite_eq, Finset.mem_univ, if_true,
    Matrix.transpose_apply, tail, runSum_rows, rows, Fin.is_lt, mul_add, Finset.mul_sum]
  rw [add_assoc, ← Finset.sum_add_distrib]
  congr 1
  refine Finset.sum_congr rfl fun j _ => ?_
  rw [sub_eq_add_neg, Real.exp_add, saM]; ring
end Agree

/-! ## The inverse by doubling -/

/-- Powers of a matrix strictly below the diagonal vanish towards it. -/
theorem pow_mask (A : Matrix (Fin C) (Fin C) ℝ) (n : ℕ) (i j : Fin C) (h : i.val < j.val + n) : ((mask 0 A) ^ n) i j = 0 := by
  induction n generalizing j with
  | zero => rw [pow_zero, Matrix.one_apply_ne (fun e => by subst e; omega)]
  | succ n ih =>
    rw [pow_succ, Matrix.mul_apply]
    refine Finset.sum_eq_zero fun m _ => ?_
    by_cases hm : i.val < m.val + n
    · rw [ih m hm, zero_mul]
    · rw [mask, if_neg (by omega), mul_zero]

/-- `1 + A`, then five times `T + T P` with `P` squared: the sum of the powers of `A` below the 64th. -/
def inv5 (A : Matrix (Fin C) (Fin C) ℝ) : Matrix (Fin C) (Fin C) ℝ :=
  have T := 1 + A
  have P := A * A
  have T := T + T * P
  have P := P * P
  have T := T + T * P
  have P := P * P
  have T := T + T * P
  have P := P * P
  have T := T + T * P
  have P := P * P
  T + T * P

theorem dbl (A T P : Matrix (Fin C) (Fin C) ℝ) (n : ℕ) (hP : P = A ^ n) (hT : T * (1 - A) = 1 - A ^ (2 * n)) :
    P * P = A ^ (2 * n) ∧ (T + T * (P * P)) * (1 - A) = 1 - A ^ (2 * (2 * n)) := by
  have h : P * P = A ^ (2 * n) := by rw [hP, ← pow_add, two_mul]
  refine ⟨h, ?_⟩
  have hc : A ^ (2 * n) * (1 - A) = (1 - A) * A ^ (2 * n) := by
    rw [mul_sub, sub_mul, mul_one, one_mul, ← pow_succ, ← pow_succ']
  rw [h, add_mul, mul_assoc, hc, ← mul_assoc, hT, sub_mul, one_mul, ← pow_add, two_mul (2 * n)]; abel

theorem inv5_mul (A : Matrix (Fin 64) (Fin 64) ℝ) : inv5 (mask 0 A) * (1 - mask 0 A) = 1 := by
  have h0 : (1 + mask 0 A) * (1 - mask 0 A) = 1 - mask 0 A ^ (2 * 1) := by
    rw [mul_one, pow_two, mul_sub, add_mul, add_mul]; simp only [one_mul, mul_one]; abel
  obtain ⟨p1, t1⟩ := dbl _ _ _ _ (pow_one _).symm h0
  obtain ⟨p2, t2⟩ := dbl _ _ _ _ p1 t1
  obtain ⟨p3, t3⟩ := dbl _ _ _ _ p2 t2
  obtain ⟨p4, t4⟩ := dbl _ _ _ _ p3 t3
  obtain ⟨p5, t5⟩ := dbl _ _ _ _ p4 t4
  have hz : mask 0 A ^ 64 = 0 := by
    ext i j; exact pow_mask A 64 i j (by have := i.isLt; omega)
  refine Eq.trans (b := 1 - mask 0 A ^ 64) t5 ?_
  rw [hz, sub_zero]

end Cert.Rec

end
-- ==== Proof.Lift.lean ====
/- The idealized operations on matrices of real numbers: each operation the kernel applies to a matrix
   whose entries are real is again such a matrix, the one the real operation gives. -/
module

public import Idealize.ShloMosaic.Lib.Pointwise
public import proofs.«01_k».proof.Proof.Gen.KernelIdeal
public import proofs.«01_k».proof.Proof.Chunk

@[expose] public section

set_option maxRecDepth 16384

noncomputable section

namespace Cert.Head

open Cert.KernelIdeal Cert.KernelIdeal.Gen Idealize.ShloMosaic
open scoped Matrix

/-- A matrix of reals as an array of idealized floats. -/
def lift {m n : Nat} (φ : FTy) (f : Matrix (Fin m) (Fin n) ℝ) : FVec Ideal ⟨2, ![m, n]⟩ φ :=
  fun j => ((f (j 0) (j 1) : ℝ) : EReal)

theorem lift_ix {m n : Nat} (φ : FTy) (f : Matrix (Fin m) (Fin n) ℝ) (x : Fin m) (y : Fin n) :
    lift φ f (ix2 x y) = ((f x y : ℝ) : EReal) := rfl

theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

section Blocks

variable {m n : ℕ}

/-- One matrix above another. -/
def vcat (f g : Matrix (Fin 64) (Fin n) ℝ) : Matrix (Fin 128) (Fin n) ℝ :=
  fun i j => if h : i.val < 64 then f ⟨i.val, h⟩ j else g ⟨i.val - 64, by omega⟩ j

/-- One matrix beside another. -/
def hcat (f g : Matrix (Fin n) (Fin 64) ℝ) : Matrix (Fin n) (Fin 128) ℝ :=
  fun i j => if h : j.val < 64 then f i ⟨j.val, h⟩ else g i ⟨j.val - 64, by omega⟩

/-- The entrywise product, the entrywise exponential, the last row, a row repeated, the diagonal part. -/
def had (f g : Matrix (Fin m) (Fin n) ℝ) : Matrix (Fin m) (Fin n) ℝ := fun i j => f i j * g i j
def mexp (f : Matrix (Fin m) (Fin n) ℝ) : Matrix (Fin m) (Fin n) ℝ := fun i j => Real.exp (f i j)
def lastRow (f : Matrix (Fin 64) (Fin n) ℝ) : Matrix (Fin 1) (Fin n) ℝ := fun _ j => f 63 j
def spread (f : Matrix (Fin 1) (Fin n) ℝ) : Matrix (Fin m) (Fin n) ℝ := fun _ j => f 0 j
def diagPart (f : Matrix (Fin n) (Fin n) ℝ) : Matrix (Fin n) (Fin n) ℝ := fun i j => if i = j then f i j else 0
def ones : Matrix (Fin m) (Fin n) ℝ := fun _ _ => 1

end Blocks

section Any

variable {m n : Nat}

theorem lift_add (f g : Matrix (Fin m) (Fin n) ℝ) :
    addf (lift .f32 f) (lift .f32 g) = lift .f32 (f + g) := by
  funext j; exact (EReal.coe_add _ _).symm

theorem lift_sub (f g : Matrix (Fin m) (Fin n) ℝ) :
    subf (lift .f32 f) (lift .f32 g) = lift .f32 (f - g) := by
  funext j; exact (EReal.coe_sub _ _).symm

theorem lift_mul (f g : Matrix (Fin m) (Fin n) ℝ) :
    mulf (lift .f32 f) (lift .f32 g) = lift .f32 (had f g) := by
  funext j; exact (EReal.coe_mul _ _).symm

theorem lift_exp (f : Matrix (Fin m) (Fin n) ℝ) :
    exp (lift .f32 f) = lift .f32 (mexp f) := by
  funext j; simp [lift, exp, mexp]

theorem lift_zero : (broadcast ⟨2, ![m, n]⟩ (Scalar.ofBits .f32 0x00000000#32 : Ideal .f32))
    = lift .f32 (0 : Matrix (Fin m) (Fin n) ℝ) := by
  funext j
  show (Scalar.ofBits .f32 0x00000000#32 : Ideal .f32) = ((0 : ℝ) : EReal)
  simp [Ideal.ofBits_zero_f32]

theorem lift_one : (broadcast ⟨2, ![m, n]⟩ (Scalar.ofBits .f32 0x3F800000#32 : Ideal .f32))
    = lift .f32 (ones : Matrix (Fin m) (Fin n) ℝ) := by
  funext j
  show (Scalar.ofBits .f32 0x3F800000#32 : Ideal .f32) = ((1 : ℝ) : EReal)
  simp [Ideal.ofBits_one_f32]

theorem lift_const : (constant ⟨2, ![m, n]⟩ .f32 0x00000000#32 : FVec Ideal ⟨2, ![m, n]⟩ .f32)
    = lift .f32 (0 : Matrix (Fin m) (Fin n) ℝ) := lift_zero

end Any

/-! ### Cutting, stacking, transposing -/

theorem lift_catRows (f g : Matrix (Fin 64) (Fin 64) ℝ) :
    concatenate S128x64 0 [⟨S64x64, lift .f32 f⟩, ⟨S64x64, lift .f32 g⟩] concatenates_S64x64_S64x64_S128x64_d0
      = lift .f32 (vcat f g) := by
  funext j
  pointwise [lift, vcat, hcat]
  split_ifs <;> rfl

theorem lift_catCols (f g : Matrix (Fin 64) (Fin 64) ℝ) :
    concatenate S64x128 1 [⟨S64x64, lift .f32 f⟩, ⟨S64x64, lift .f32 g⟩] concatenates_S64x64_S64x64_S64x128_d1
      = lift .f32 (hcat f g) := by
  funext j
  pointwise [lift, vcat, hcat]
  split_ifs <;> rfl

theorem lift_catWide (f g : Matrix (Fin 64) (Fin 128) ℝ) :
    concatenate S128x128 0 [⟨S64x128, lift .f32 f⟩, ⟨S64x128, lift .f32 g⟩] concatenates_S64x128_S64x128_S128x128_d0
      = lift .f32 (vcat f g) := by
  funext j
  pointwise [lift, vcat, hcat]
  split_ifs <;> rfl

theorem lift_transpose (f : Matrix (Fin 64) (Fin 64) ℝ) :
    transpose S64x64 [1, 0] (lift .f32 f) transposes_S64x64_p1_0_S64x64 = lift .f32 fᵀ := by
  funext j
  pointwise [lift]
  rfl

theorem lift_lastRow (f : Matrix (Fin 64) (Fin 64) ℝ) :
    extractStridedSlice S1x64 ![63, 0] (lift .f32 f) slices_S64x64_o63_0_S1x64
      = lift .f32 (lastRow f) := by
  funext j
  pointwise [lift]
  rfl

theorem lift_spread (f : Matrix (Fin 1) (Fin 64) ℝ) :
    broadcastTo S64x64 (lift .f32 f) broadcasts_S1x64_S64x64 = lift .f32 (spread f) := by
  funext j
  pointwise [lift]
  rfl

/-! ### Matrix products -/

theorem lift_mul64 (A B : Matrix (Fin 64) (Fin 64) ℝ) :
    matmul dot_S64x64_S64x64_S64x64_1_0_0_1_n_n (some .fp32) (lift .f32 A) (lift .f32 B)
      (constant S64x64 .f32 0x00000000#32 : FVec Ideal S64x64 .f32) = lift .f32 (A * B) := by
  funext j
  refine Eq.trans ?_ (coe_sum Finset.univ (fun k => A (j 0) k * B k (j 1))).symm
  pointwise
  exact Finset.sum_congr rfl fun k _ => (EReal.coe_mul _ _).symm

theorem lift_mulT (A B : Matrix (Fin 128) (Fin 64) ℝ) :
    matmul dot_S128x64_S128x64_S128x128_1_1_0_0_n_n (some .fp32) (lift .f32 A) (lift .f32 B)
      (constant S128x128 .f32 0x00000000#32 : FVec Ideal S128x128 .f32) = lift .f32 (A * Bᵀ) := by
  funext j
  refine Eq.trans ?_ (coe_sum Finset.univ (fun k => A (j 0) k * B (j 1) k)).symm
  pointwise
  exact Finset.sum_congr rfl fun k _ => (EReal.coe_mul _ _).symm

theorem lift_mulWide (A : Matrix (Fin 64) (Fin 64) ℝ) (B : Matrix (Fin 64) (Fin 128) ℝ) :
    matmul dot_S64x64_S64x128_S64x128_1_0_0_1_n_n (some .fp32) (lift .f32 A) (lift .f32 B)
      (constant S64x128 .f32 0x00000000#32 : FVec Ideal S64x128 .f32) = lift .f32 (A * B) := by
  funext j
  refine Eq.trans ?_ (coe_sum Finset.univ (fun k => A (j 0) k * B k (j 1))).symm
  pointwise
  exact Finset.sum_congr rfl fun k _ => (EReal.coe_mul _ _).symm

theorem lift_mulTall (A : Matrix (Fin 128) (Fin 64) ℝ) (B : Matrix (Fin 64) (Fin 128) ℝ) :
    matmul dot_S128x64_S64x128_S128x128_1_0_0_1_n_n (some .fp32) (lift .f32 A) (lift .f32 B)
      (constant S128x128 .f32 0x00000000#32 : FVec Ideal S128x128 .f32) = lift .f32 (A * B) := by
  funext j
  refine Eq.trans ?_ (coe_sum Finset.univ (fun k => A (j 0) k * B k (j 1))).symm
  pointwise
  exact Finset.sum_congr rfl fun k _ => (EReal.coe_mul _ _).symm

theorem lift_mulBig (A B : Matrix (Fin 128) (Fin 128) ℝ) :
    matmul dot_S128x128_S128x128_S128x128_1_0_0_1_n_n (some .fp32) (lift .f32 A) (lift .f32 B)
      (constant S128x128 .f32 0x00000000#32 : FVec Ideal S128x128 .f32) = lift .f32 (A * B) := by
  funext j
  refine Eq.trans ?_ (coe_sum Finset.univ (fun k => A (j 0) k * B k (j 1))).symm
  pointwise
  exact Finset.sum_congr rfl fun k _ => (EReal.coe_mul _ _).symm

/-! ### Masks -/

/-- The row number and the column number of each entry. -/
def rowI : IVec S64x64 32 := iota .tc S64x64 32 [0] iota_S64x64_d0_w32
def colI : IVec S64x64 32 := iota .tc S64x64 32 [1] iota_S64x64_d1_w32

theorem cmp_gt : ∀ a b : Fin 64, IntOp.cmpi .sgt (BitVec.ofNat 32 a.val) (BitVec.ofNat 32 b.val) = if b.val < a.val + 0 then 1#1 else 0#1 := by
  decide +kernel

theorem cmp_ge : ∀ a b : Fin 64, IntOp.cmpi .sge (BitVec.ofNat 32 a.val) (BitVec.ofNat 32 b.val) = if b.val < a.val + 1 then 1#1 else 0#1 := by
  decide +kernel

theorem cmp_eq : ∀ a b : Fin 64, IntOp.cmpi .eq (BitVec.ofNat 32 a.val) (BitVec.ofNat 32 b.val) = if a = b then 1#1 else 0#1 := by
  decide +kernel

theorem lift_gt (f : Matrix (Fin 64) (Fin 64) ℝ) :
    select (cmpi .sgt rowI colI) (lift .f32 f) (lift .f32 0) = lift .f32 (Cert.Rec.mask 0 f) := by
  funext j
  pointwise [lift, rowI, colI]
  rw [cmp_gt (j 0) (j 1)]
  show _ = (((if (j 1).val < (j 0).val + 0 then f (j 0) (j 1) else 0 : ℝ)) : EReal)
  split_ifs
  · simp [Scalar.select]
  · show _ = ((0 : ℝ) : EReal)
    simp only [Scalar.select]
    rfl

theorem lift_ge (f : Matrix (Fin 64) (Fin 64) ℝ) :
    select (cmpi .sge rowI colI) (lift .f32 f) (lift .f32 0) = lift .f32 (Cert.Rec.mask 1 f) := by
  funext j
  pointwise [lift, rowI, colI]
  rw [cmp_ge (j 0) (j 1)]
  show _ = (((if (j 1).val < (j 0).val + 1 then f (j 0) (j 1) else 0 : ℝ)) : EReal)
  split_ifs
  · simp [Scalar.select]
  · show _ = ((0 : ℝ) : EReal)
    simp only [Scalar.select]
    rfl

theorem lift_eq (f : Matrix (Fin 64) (Fin 64) ℝ) :
    select (cmpi .eq rowI colI) (lift .f32 f) (lift .f32 0) = lift .f32 (diagPart f) := by
  funext j
  pointwise [lift, rowI, colI]
  rw [cmp_eq (j 0) (j 1)]
  show _ = (((if (show Fin 64 from j 0) = (show Fin 64 from j 1) then f (j 0) (j 1) else 0 : ℝ)) : EReal)
  split_ifs
  · simp [Scalar.select]
  · show _ = ((0 : ℝ) : EReal)
    simp only [Scalar.select]
    rfl

/-! ### Running sums by doubling -/

/-- Row `i` of `win n w`: the sum of the last `n` rows of `w` up to row `i`. -/
def win (n : ℕ) (w : Matrix (Fin 64) (Fin 64) ℝ) : Matrix (Fin 64) (Fin 64) ℝ :=
  fun i x => ∑ j : Fin 64, if j.val ≤ i.val ∧ i.val < j.val + n then w j x else 0

theorem win_one (w : Matrix (Fin 64) (Fin 64) ℝ) : win 1 w = w := by
  funext i x
  rw [win, Finset.sum_eq_single i]
  · simp
  · intro j _ h
    rw [if_neg]
    rintro ⟨h1, h2⟩
    exact h (Fin.ext (by omega))
  · simp

theorem win_all (w : Matrix (Fin 64) (Fin 64) ℝ) : win 64 w = Cert.Rec.runSum w := by
  funext i x
  refine Finset.sum_congr rfl fun j _ => ?_
  exact if_congr (by constructor <;> intro h <;> omega) rfl rfl

theorem win_step (n : ℕ) (w : Matrix (Fin 64) (Fin 64) ℝ) (i x : Fin 64) (hn : n ≤ 64):
    win (n + n) w i x = win n w i x
      + if n ≤ i.val then win n w ⟨(i.val + 64 - n) % 64, Nat.mod_lt _ (by omega)⟩ x else 0 := by
  unfold win
  split_ifs with h
  · have e : (i.val + 64 - n) % 64 = i.val - n := by omega
    rw [← Finset.sum_add_distrib]
    refine Finset.sum_congr rfl fun j _ => ?_
    simp only [e]
    split_ifs <;> first | (exfalso; omega) | simp
  · rw [add_zero]
    exact Finset.sum_congr rfl fun j _ => if_congr (by omega) rfl rfl

/-- One doubling: add the rows `s` above, where there are such rows. -/
def csum (s : BitVec 32) (g : FVec Ideal S64x64 .f32) : FVec Ideal S64x64 .f32 :=
  addf g (select (cmpi .sge rowI (broadcast S64x64 s)) (dynamicRotate 0 s none g rotates_S64x64_d0)
    (broadcast S64x64 (Scalar.ofBits .f32 0x00000000#32 : Ideal .f32)))

theorem cmp_ge_lit (s : ℕ) (hs : s ≤ 32) : ∀ a : Fin 64, IntOp.cmpi .sge (BitVec.ofNat 32 a.val) (BitVec.ofNat 32 s) = if s ≤ a.val then 1#1 else 0#1 := by
  have h : ∀ s : Fin 33, ∀ a : Fin 64, IntOp.cmpi .sge (BitVec.ofNat 32 a.val) (BitVec.ofNat 32 s.val) = if s.val ≤ a.val then 1#1 else 0#1 := by
    decide +kernel
  exact h ⟨s, by omega⟩

theorem lift_csum (n : ℕ) (hn : n ≤ 32) (w : Matrix (Fin 64) (Fin 64) ℝ) :
    csum (BitVec.ofNat 32 n) (lift .f32 (win n w)) = lift .f32 (win (n + n) w) := by
  funext j
  unfold csum
  pointwise [lift, rowI]
  have e : (BitVec.ofNat 32 n).toNat % 64 = n := by
    rw [BitVec.toNat_ofNat]; omega
  rw [cmp_ge_lit n hn (j 0), win_step n w (j 0) (j 1) (by omega), EReal.coe_add]
  congr 1
  split_ifs with h
  · simp only [Scalar.select, e]
    rfl
  · show _ = ((0 : ℝ) : EReal)
    simp only [Scalar.select]
    rfl

end Cert.Head
-- ==== Proof.Head.lean ====
/- One chunk of one head as the kernel computes it, and its value on real inputs: the chunked form of
   the recurrence. -/
module

public import proofs.«01_k».proof.Proof.Lift

@[expose] public section

set_option maxRecDepth 16384

noncomputable section

namespace Cert.Head

open Cert.KernelIdeal Cert.KernelIdeal.Gen Idealize.ShloMosaic
open scoped Matrix

/-! ### Matrices cut in blocks -/

section Blocks

variable {n : ℕ}

/-- The upper half, and the lower. -/
def up (f : Matrix (Fin 128) (Fin n) ℝ) : Matrix (Fin 64) (Fin n) ℝ := fun i j => f ⟨i.val, by omega⟩ j
def dn (f : Matrix (Fin 128) (Fin n) ℝ) : Matrix (Fin 64) (Fin n) ℝ := fun i j => f ⟨64 + i.val, by omega⟩ j

theorem up_vcat (f g : Matrix (Fin 64) (Fin n) ℝ) : up (vcat f g) = f := by
  funext i j; simp [up, vcat]

theorem dn_vcat (f g : Matrix (Fin 64) (Fin n) ℝ) : dn (vcat f g) = g := by
  funext i j; simp [dn, vcat]

variable {m : ℕ}

theorem vcat_mul (f g : Matrix (Fin 64) (Fin n) ℝ) (B : Matrix (Fin n) (Fin m) ℝ) :
    vcat f g * B = vcat (f * B) (g * B) := by
  funext i j
  by_cases h : i.val < 64 <;> simp [Matrix.mul_apply, vcat, h]

theorem mul_hcat (A : Matrix (Fin m) (Fin n) ℝ) (f g : Matrix (Fin n) (Fin 64) ℝ) :
    A * hcat f g = hcat (A * f) (A * g) := by
  funext i j
  by_cases h : j.val < 64 <;> simp [Matrix.mul_apply, hcat, h]

theorem hcat_mul_vcat (f g : Matrix (Fin m) (Fin 64) ℝ) (S v : Matrix (Fin 64) (Fin n) ℝ) :
    hcat f g * vcat S v = f * S + g * v := by
  funext i j
  simp only [Matrix.mul_apply, Matrix.add_apply]
  rw [Fin.sum_univ_add (a := 64) (b := 64) (fun k : Fin (64 + 64) => hcat f g i k * vcat S v k j)]
  congr 1 <;> refine Finset.sum_congr rfl fun k _ => ?_ <;> simp [hcat, vcat]

theorem hcat_add (f g f' g' : Matrix (Fin m) (Fin 64) ℝ) : hcat f g + hcat f' g' = hcat (f + f') (g + g') := by
  funext i j
  by_cases h : j.val < 64 <;> simp [hcat, h]

theorem vcat_add (f g f' g' : Matrix (Fin 64) (Fin n) ℝ) : vcat f g + vcat f' g' = vcat (f + f') (g + g') := by
  funext i j
  by_cases h : i.val < 64 <;> simp [vcat, h]

theorem vcat_transpose (f g : Matrix (Fin 64) (Fin n) ℝ) : (vcat f g)ᵀ = hcat fᵀ gᵀ := by
  funext i j
  by_cases h : j.val < 64 <;> simp [hcat, vcat, h]

end Blocks

/-! ### The four blocks of a square, and the two halves of a tall matrix -/

theorem lift_slice00 (f g f' g' : Matrix (Fin 64) (Fin 64) ℝ) :
    extractStridedSlice S64x64 ![0, 0] (lift .f32 (vcat (hcat f g) (hcat f' g'))) slices_S128x128_o0_0_S64x64 = lift .f32 f := by
  funext j
  pointwise [lift]
  have h0 : (j 0).val < 64 := (j 0).isLt
  have h1 : (j 1).val < 64 := (j 1).isLt
  congr 1
  simp [vcat, hcat, h0, h1]

theorem lift_slice01 (f g f' g' : Matrix (Fin 64) (Fin 64) ℝ) :
    extractStridedSlice S64x64 ![0, 64] (lift .f32 (vcat (hcat f g) (hcat f' g'))) slices_S128x128_o0_64_S64x64 = lift .f32 g := by
  funext j
  pointwise [lift]
  have h0 : (j 0).val < 64 := (j 0).isLt
  have h1 : (j 1).val < 64 := (j 1).isLt
  congr 1
  simp [vcat, hcat, h0, h1]

theorem lift_slice10 (f g f' g' : Matrix (Fin 64) (Fin 64) ℝ) :
    extractStridedSlice S64x64 ![64, 0] (lift .f32 (vcat (hcat f g) (hcat f' g'))) slices_S128x128_o64_0_S64x64 = lift .f32 f' := by
  funext j
  pointwise [lift]
  have h0 : (j 0).val < 64 := (j 0).isLt
  have h1 : (j 1).val < 64 := (j 1).isLt
  congr 1
  simp [vcat, hcat, h0, h1]

theorem lift_slice11 (f g f' g' : Matrix (Fin 64) (Fin 64) ℝ) :
    extractStridedSlice S64x64 ![64, 64] (lift .f32 (vcat (hcat f g) (hcat f' g'))) slices_S128x128_o64_64_S64x64 = lift .f32 g' := by
  funext j
  pointwise [lift]
  have h0 : (j 0).val < 64 := (j 0).isLt
  have h1 : (j 1).val < 64 := (j 1).isLt
  congr 1
  simp [vcat, hcat, h0, h1]

theorem lift_up (f g : Matrix (Fin 64) (Fin 128) ℝ) :
    extractStridedSlice S64x128 ![0, 0] (lift .f32 (vcat f g)) slices_S128x128_o0_0_S64x128 = lift .f32 f := by
  funext j
  pointwise [lift]
  have h0 : (j 0).val < 64 := (j 0).isLt
  congr 1
  simp [vcat, h0]

theorem lift_dn (f g : Matrix (Fin 64) (Fin 128) ℝ) :
    extractStridedSlice S64x128 ![64, 0] (lift .f32 (vcat f g)) slices_S128x128_o64_0_S64x128 = lift .f32 g := by
  funext j
  pointwise [lift]
  have h0 : (j 0).val < 64 := (j 0).isLt
  congr 1
  simp [vcat, h0]

/-! ### The head's chunk -/

abbrev M64 := FVec Ideal S64x64 .f32
abbrev M64x128 := FVec Ideal S64x128 .f32

/-- Zero everywhere. -/
abbrev zero64 : M64 := broadcast S64x64 (Scalar.ofBits .f32 0x00000000#32 : Ideal .f32)
abbrev czero64 : M64 := constant S64x64 .f32 0x00000000#32

/-- The running sums of the rows. -/
def sums (w : M64) : M64 := csum 32#32 (csum 16#32 (csum 8#32 (csum 4#32 (csum 2#32 (csum 1#32 w)))))

/-- The products of all four pairs of operands, in one. -/
def pairs (r k a b w G : M64) : FVec Ideal S128x128 .f32 :=
  matmul dot_S128x64_S128x64_S128x128_1_1_0_0_n_n (some .fp32)
    (concatenate S128x64 0 [⟨S64x64, mulf a (exp (subf G w))⟩, ⟨S64x64, mulf r (exp G)⟩] concatenates_S64x64_S64x64_S128x64_d0)
    (concatenate S128x64 0 [⟨S64x64, mulf b (exp (subf zero64 G))⟩, ⟨S64x64, mulf k (exp (subf zero64 G))⟩] concatenates_S64x64_S64x64_S128x64_d0)
    (constant S128x128 .f32 0x00000000#32)

/-- A product of two squares. -/
abbrev mm (A B : M64) : M64 := matmul dot_S64x64_S64x64_S64x64_1_0_0_1_n_n (some .fp32) A B czero64

/-- `(1 + A)(1 + A²)(1 + A⁴)…(1 + A³²)`. -/
def inverse (A : M64) : M64 :=
  have T0 : M64 := addf (select (cmpi .eq rowI colI) (broadcast S64x64 (Scalar.ofBits .f32 0x3F800000#32 : Ideal .f32)) zero64) A
  have P0 : M64 := mm A A
  have T1 : M64 := addf T0 (mm T0 P0)
  have P1 : M64 := mm P0 P0
  have T2 : M64 := addf T1 (mm T1 P1)
  have P2 : M64 := mm P1 P1
  have T3 : M64 := addf T2 (mm T2 P2)
  have P3 : M64 := mm P2 P2
  have T4 : M64 := addf T3 (mm T3 P3)
  have P4 : M64 := mm P3 P3
  addf T4 (mm T4 P4)

/-- The operand's rows scaled by the decays left to the end of the chunk, transposed. -/
def toEnd (G b : M64) : M64 :=
  transpose S64x64 [1, 0] (mulf b (exp (subf (broadcastTo S64x64
    (extractStridedSlice S1x64 ![63, 0] G slices_S64x64_o63_0_S1x64) broadcasts_S1x64_S64x64) G))) transposes_S64x64_p1_0_S64x64

/-- The chunk's whole decay on the diagonal. -/
def decay (G : M64) : M64 :=
  select (cmpi .eq rowI colI) (broadcastTo S64x64 (shapeCast S1x64 (exp (extractStridedSlice S1x64 ![63, 0] G
    slices_S64x64_o63_0_S1x64)) shapeCasts_S1x64_S1x64) broadcasts_S1x64_S64x64) zero64

/-- The last products: outputs above, the next state below. -/
def close (aT rT Aak Arb Ark T bE dec kE : M64) (v S : M64x128) : FVec Ideal S128x128 .f32 :=
  matmul dot_S128x128_S128x128_S128x128_1_0_0_1_n_n (some .fp32)
    (addf (concatenate S128x128 0 [⟨S64x128, concatenate S64x128 1 [⟨S64x64, rT⟩, ⟨S64x64, Ark⟩] concatenates_S64x64_S64x64_S64x128_d1⟩,
        ⟨S64x128, concatenate S64x128 1 [⟨S64x64, dec⟩, ⟨S64x64, kE⟩] concatenates_S64x64_S64x64_S64x128_d1⟩] concatenates_S64x128_S64x128_S128x128_d0)
      (matmul dot_S128x64_S64x128_S128x128_1_0_0_1_n_n (some .fp32)
        (concatenate S128x64 0 [⟨S64x64, Arb⟩, ⟨S64x64, bE⟩] concatenates_S64x64_S64x64_S128x64_d0)
        (matmul dot_S64x64_S64x128_S64x128_1_0_0_1_n_n (some .fp32) T
          (concatenate S64x128 1 [⟨S64x64, aT⟩, ⟨S64x64, Aak⟩] concatenates_S64x64_S64x64_S64x128_d1)
          (constant S64x128 .f32 0x00000000#32))
        (constant S128x128 .f32 0x00000000#32)))
    (concatenate S128x128 0 [⟨S64x128, S⟩, ⟨S64x128, v⟩] concatenates_S64x128_S64x128_S128x128_d0)
    (constant S128x128 .f32 0x00000000#32)

/-- One chunk of one head: the outputs above the next state. -/
def head (r k : M64) (v : M64x128) (a b w : M64) (S : M64x128) : FVec Ideal S128x128 .f32 :=
  have G : M64 := sums w
  have A : FVec Ideal S128x128 .f32 := pairs r k a b w G
  close (mulf a (exp (subf G w))) (mulf r (exp G))
    (select (cmpi .sgt rowI colI) (extractStridedSlice S64x64 ![0, 64] A slices_S128x128_o0_64_S64x64) zero64)
    (select (cmpi .sge rowI colI) (extractStridedSlice S64x64 ![64, 0] A slices_S128x128_o64_0_S64x64) zero64)
    (select (cmpi .sge rowI colI) (extractStridedSlice S64x64 ![64, 64] A slices_S128x128_o64_64_S64x64) zero64)
    (inverse (select (cmpi .sgt rowI colI) (extractStridedSlice S64x64 ![0, 0] A slices_S128x128_o0_0_S64x64) zero64))
    (toEnd G b) (decay G) (toEnd G k) v S

/-! ### Its value on real inputs -/

section Value
open Cert.Rec (rows runSum mask aT rT neg tail chunkOut chunkSt inv5)

variable (r k a b w : Matrix (Fin 64) (Fin 64) ℝ) (v S : Matrix (Fin 64) (Fin 128) ℝ)

theorem lift_sums : sums (lift .f32 w) = lift .f32 (runSum w) := by
  unfold sums
  conv_lhs => rw [← win_one w]
  rw [show (1#32) = BitVec.ofNat 32 1 from rfl, lift_csum 1 (by omega), show (2#32) = BitVec.ofNat 32 (1 + 1) from rfl,
    lift_csum (1 + 1) (by omega), show (4#32) = BitVec.ofNat 32 (1 + 1 + (1 + 1)) from rfl, lift_csum _ (by omega),
    show (8#32) = BitVec.ofNat 32 (4 + 4) from rfl, lift_csum (4 + 4) (by omega),
    show (16#32) = BitVec.ofNat 32 (8 + 8) from rfl, lift_csum (8 + 8) (by omega),
    show (32#32) = BitVec.ofNat 32 (16 + 16) from rfl, lift_csum (16 + 16) (by omega)]
  exact congrArg _ (win_all w)

theorem lift_pairs : pairs (lift .f32 r) (lift .f32 k) (lift .f32 a) (lift .f32 b) (lift .f32 w) (lift .f32 (runSum w))
    = lift .f32 (vcat (hcat (aT a w * (neg w b)ᵀ) (aT a w * (neg w k)ᵀ)) (hcat (rT r w * (neg w b)ᵀ) (rT r w * (neg w k)ᵀ))) := by
  unfold pairs
  rw [zero64, lift_zero, lift_sub, lift_sub, lift_exp, lift_exp, lift_exp, lift_mul, lift_mul, lift_mul, lift_mul, lift_catRows, lift_catRows, lift_mulT]
  refine congrArg _ ?_
  have h1 : had b (mexp (0 - runSum w)) = neg w b := by
    funext i j; simp [neg, had, mexp]
  have h2 : had k (mexp (0 - runSum w)) = neg w k := by
    funext i j; simp [neg, had, mexp]
  rw [show had a (mexp (runSum w - w)) = aT a w from rfl, show had r (mexp (runSum w)) = rT r w from rfl, h1, h2, vcat_transpose, vcat_mul, mul_hcat, mul_hcat]

theorem lift_inverse : inverse (lift .f32 a) = lift .f32 (inv5 a) := by
  have h1 : (diagPart ones : Matrix (Fin 64) (Fin 64) ℝ) = 1 := by
    funext i j; simp [Matrix.one_apply, diagPart, ones]
  unfold inverse
  dsimp only [mm, zero64, czero64]
  rw [lift_zero, lift_one, lift_eq, h1]
  simp only [lift_mul64, lift_add]
  rfl

theorem lift_toEnd : toEnd (lift .f32 (runSum w)) (lift .f32 b) = lift .f32 (tail w (fun x => runSum w 63 x) b)ᵀ := by
  unfold toEnd
  rw [lift_lastRow, lift_spread, lift_sub, lift_exp, lift_mul, lift_transpose]
  rfl

theorem lift_decay : decay (lift .f32 (runSum w)) = lift .f32 (Matrix.diagonal (fun x => Real.exp (runSum w 63 x))) := by
  unfold decay
  rw [lift_lastRow, lift_exp, shapeCast_self, lift_spread, zero64, lift_zero, lift_eq]
  refine congrArg _ ?_
  funext i j
  rw [Matrix.diagonal_apply]
  unfold diagPart spread mexp lastRow
  split_ifs with h
  · rw [h]
  · rfl

theorem lift_close (aT rT Aak Arb Ark T bE dec kE : Matrix (Fin 64) (Fin 64) ℝ) :
    close (lift .f32 aT) (lift .f32 rT) (lift .f32 Aak) (lift .f32 Arb) (lift .f32 Ark) (lift .f32 T) (lift .f32 bE) (lift .f32 dec) (lift .f32 kE)
      (lift .f32 v) (lift .f32 S)
    = lift .f32 (vcat ((rT + Arb * (T * aT)) * S + (Ark + Arb * (T * Aak)) * v) ((dec + bE * (T * aT)) * S + (kE + bE * (T * Aak)) * v)) := by
  unfold close
  rw [lift_catRows, lift_catCols, lift_catCols, lift_catCols, lift_mulWide, lift_mulTall, lift_catWide, lift_catWide, lift_add, lift_mulBig]
  refine congrArg _ ?_
  rw [mul_hcat, vcat_mul, mul_hcat, mul_hcat, vcat_add, hcat_add, hcat_add, vcat_mul, hcat_mul_vcat, hcat_mul_vcat]

/-- On real inputs: the chunked form of the recurrence, with the inverse by doubling. -/
theorem lift_head : head (lift .f32 r) (lift .f32 k) (lift .f32 v) (lift .f32 a) (lift .f32 b) (lift .f32 w) (lift .f32 S)
    = lift .f32 (vcat (chunkOut (inv5 (mask 0 (aT a w * (neg w b)ᵀ))) r a b k w v S)
        (chunkSt (inv5 (mask 0 (aT a w * (neg w b)ᵀ))) a b k w v S (fun x => runSum w 63 x))) := by
  unfold head
  rw [lift_sums]
  dsimp only
  rw [lift_pairs, lift_slice00, lift_slice01, lift_slice10, lift_slice11, lift_toEnd, lift_toEnd, lift_decay, lift_sub, lift_exp, lift_exp, lift_mul, lift_mul,
    zero64, lift_zero, lift_gt, lift_gt, lift_ge, lift_ge, lift_inverse]
  exact lift_close v S (aT a w) (rT r w) _ _ _ _ _ _ _

/-- The head's chunk on the rows of real sequences: the recurrence's outputs above its state after 64 tokens. -/
theorem head_rec (r k a b w : ℕ → Fin 64 → ℝ) (v : ℕ → Fin 128 → ℝ) (S : Matrix (Fin 64) (Fin 128) ℝ) :
    head (lift .f32 (rows 64 r)) (lift .f32 (rows 64 k)) (lift .f32 (rows 64 v)) (lift .f32 (rows 64 a)) (lift .f32 (rows 64 b))
        (lift .f32 (rows 64 w)) (lift .f32 S)
      = lift .f32 (vcat (fun i y => Cert.Rec.out r a b k w v S i.val y) (Cert.Rec.st a b k w v S 64)) := by
  have hT := Cert.Rec.inv5_mul (aT (rows 64 a) (rows 64 w) * (neg (rows 64 w) (rows 64 b))ᵀ)
  have hG : (fun x => runSum (rows 64 w) 63 x) = Cert.Rec.cum w 64 := by
    funext x; exact Cert.Rec.runSum_rows w 63 x
  rw [lift_head, hG]
  congr 2
  · funext i y; exact Cert.Rec.chunkOut_out S r a b k w v _ hT i y
  · funext x y; exact Cert.Rec.chunkSt_st S a b k w v _ hT x y

end Value

end Cert.Head
-- ==== Proof.HeadLoad.lean ====
/- A chunk of a head from the values the kernel loads for it: the codes times their scales, the other
   operands widened, the state taken out of the scratch. -/
module

public import proofs.«01_k».proof.Proof.Head

@[expose] public section

set_option maxRecDepth 16384

noncomputable section

namespace Cert.Head

open Cert.KernelIdeal Cert.KernelIdeal.Gen Idealize.ShloMosaic
open scoped Matrix
open Cert.Rec (rows)

/-- Column `h` of the transposed scales, from token `o` on. -/
def scaleCol (o h : ℕ) (hs : S128x8.Slices ![o, h] S64x1) (s : Vec Ideal S8x128 .f32) : FVec Ideal S64x1 .f32 :=
  extractStridedSlice S64x1 ![o, h] (transpose S128x8 [1, 0] (shapeCast S8x128 s shapeCasts_S8x128_S8x128) transposes_S8x128_p1_0_S128x8) hs

/-- Codes times scales. -/
def dq64 (o h : ℕ) (hs : S128x8.Slices ![o, h] S64x1) (X : Vec Ideal S64x64 .fp8e4m3) (s : Vec Ideal S8x128 .f32) : M64 :=
  mulf (extf .f32 (shapeCast S64x64 X shapeCasts_S64x64_S64x64) bitsLt_fp8e4m3_f32) (broadcastTo S64x64 (scaleCol o h hs s) broadcasts_S64x1_S64x64)
def dq128 (o h : ℕ) (hs : S128x8.Slices ![o, h] S64x1) (X : Vec Ideal S64x128 .fp8e4m3) (s : Vec Ideal S8x128 .f32) : M64x128 :=
  mulf (extf .f32 (shapeCast S64x128 X shapeCasts_S64x128_S64x128) bitsLt_fp8e4m3_f32) (broadcastTo S64x128 (scaleCol o h hs s) broadcasts_S64x1_S64x128)

/-- One chunk of one head from the loads. -/
def headAt (o h : ℕ) (hs : S128x8.Slices ![o, h] S64x1) (X0 X1 : Vec Ideal S64x64 .fp8e4m3) (X2 : Vec Ideal S64x128 .fp8e4m3)
    (X3 X4 : Vec Ideal S64x64 .bf16) (X5 : Vec Ideal S64x64 .f32) (s6 s7 s8 : Vec Ideal S8x128 .f32) (Sv : Vec Ideal S1x64x128 .f32) :
    FVec Ideal S128x128 .f32 :=
  head (dq64 o h hs X0 s6) (dq64 o h hs X1 s7) (dq128 o h hs X2 s8)
    (extf .f32 (shapeCast S64x64 X3 shapeCasts_S64x64_S64x64) bitsLt_bf16_f32)
    (extf .f32 (shapeCast S64x64 X4 shapeCasts_S64x64_S64x64) bitsLt_bf16_f32)
    (shapeCast S64x64 X5 shapeCasts_S64x64_S64x64) (shapeCast S64x128 Sv shapeCasts_S1x64x128_S64x128)

/-- What is stored of it: the outputs, rounded, and the next state. -/
def outStore (Z : FVec Ideal S128x128 .f32) : FVec Ideal S64x128 .bf16 :=
  truncf .bf16 (extractStridedSlice S64x128 ![0, 0] Z slices_S128x128_o0_0_S64x128) bitsLt_bf16_f32
def stStore (Z : FVec Ideal S128x128 .f32) : FVec Ideal S1x64x128 .f32 :=
  shapeCast S1x64x128 (extractStridedSlice S64x128 ![64, 0] Z slices_S128x128_o64_0_S64x128) shapeCasts_S64x128_S1x64x128

theorem dq64_real (o h : ℕ) (hs : S128x8.Slices ![o, h] S64x1) (X : Vec Ideal S64x64 .fp8e4m3) (s : Vec Ideal S8x128 .f32)
    (ho : o + 64 ≤ 128) (hh : h < 8) (R : ℕ → Fin 64 → ℝ)
    (hX : ∀ (i x : Fin 64), X (ix2 i x) * s (ix2 ⟨h, hh⟩ ⟨o + i.val, by omega⟩) = ((R i.val x : ℝ) : EReal)) :
    dq64 o h hs X s = lift .f32 (rows 64 R) := by
  funext j
  idx_vars j
  unfold dq64 scaleCol
  pointwise
  exact hX j0 j1

theorem dq128_real (o h : ℕ) (hs : S128x8.Slices ![o, h] S64x1) (X : Vec Ideal S64x128 .fp8e4m3) (s : Vec Ideal S8x128 .f32)
    (ho : o + 64 ≤ 128) (hh : h < 8) (R : ℕ → Fin 128 → ℝ)
    (hX : ∀ (i : Fin 64) (x : Fin 128), X (ix2 i x) * s (ix2 ⟨h, hh⟩ ⟨o + i.val, by omega⟩) = ((R i.val x : ℝ) : EReal)) :
    dq128 o h hs X s = lift .f32 (rows 64 R) := by
  funext j
  idx_vars j
  unfold dq128 scaleCol
  pointwise
  exact hX j0 j1

theorem wide_real (X : Vec Ideal S64x64 .bf16) (R : ℕ → Fin 64 → ℝ) (hX : ∀ i x : Fin 64, X (ix2 i x) = ((R i.val x : ℝ) : EReal)) :
    (extf .f32 (shapeCast S64x64 X shapeCasts_S64x64_S64x64) bitsLt_bf16_f32 : M64) = lift .f32 (rows 64 R) := by
  funext j
  idx_vars j
  pointwise
  exact hX j0 j1

theorem same_real (X : Vec Ideal S64x64 .f32) (R : ℕ → Fin 64 → ℝ) (hX : ∀ i x : Fin 64, X (ix2 i x) = ((R i.val x : ℝ) : EReal)) :
    (shapeCast S64x64 X shapeCasts_S64x64_S64x64 : M64) = lift .f32 (rows 64 R) := by
  funext j
  idx_vars j
  pointwise
  exact hX j0 j1

theorem state_real (Sv : Vec Ideal S1x64x128 .f32) (S : Matrix (Fin 64) (Fin 128) ℝ)
    (hS : ∀ (i : Fin 64) (x : Fin 128), Sv (ix3 0 i x) = ((S i x : ℝ) : EReal)) :
    (shapeCast S64x128 Sv shapeCasts_S1x64x128_S64x128 : M64x128) = lift .f32 S := by
  funext j
  idx_vars j
  pointwise
  exact hS j0 j1

theorem headAt_real (o h : ℕ) (hs : S128x8.Slices ![o, h] S64x1) (X0 X1 : Vec Ideal S64x64 .fp8e4m3) (X2 : Vec Ideal S64x128 .fp8e4m3)
    (X3 X4 : Vec Ideal S64x64 .bf16) (X5 : Vec Ideal S64x64 .f32) (s6 s7 s8 : Vec Ideal S8x128 .f32) (Sv : Vec Ideal S1x64x128 .f32)
    (ho : o + 64 ≤ 128) (hh : h < 8) (r k a b w : ℕ → Fin 64 → ℝ) (v : ℕ → Fin 128 → ℝ) (S : Matrix (Fin 64) (Fin 128) ℝ)
    (h0 : ∀ (i x : Fin 64), X0 (ix2 i x) * s6 (ix2 ⟨h, hh⟩ ⟨o + i.val, by omega⟩) = ((r i.val x : ℝ) : EReal))
    (h1 : ∀ (i x : Fin 64), X1 (ix2 i x) * s7 (ix2 ⟨h, hh⟩ ⟨o + i.val, by omega⟩) = ((k i.val x : ℝ) : EReal))
    (h2 : ∀ (i : Fin 64) (x : Fin 128), X2 (ix2 i x) * s8 (ix2 ⟨h, hh⟩ ⟨o + i.val, by omega⟩) = ((v i.val x : ℝ) : EReal))
    (h3 : ∀ i x : Fin 64, X3 (ix2 i x) = ((a i.val x : ℝ) : EReal)) (h4 : ∀ i x : Fin 64, X4 (ix2 i x) = ((b i.val x : ℝ) : EReal))
    (h5 : ∀ i x : Fin 64, X5 (ix2 i x) = ((w i.val x : ℝ) : EReal))
    (hS : ∀ (i : Fin 64) (x : Fin 128), Sv (ix3 0 i x) = ((S i x : ℝ) : EReal)) :
    headAt o h hs X0 X1 X2 X3 X4 X5 s6 s7 s8 Sv
      = lift .f32 (vcat (fun i y => Cert.Rec.out r a b k w v S i.val y) (Cert.Rec.st a b k w v S 64)) := by
  unfold headAt
  rw [dq64_real o h hs X0 s6 ho hh r h0, dq64_real o h hs X1 s7 ho hh k h1, dq128_real o h hs X2 s8 ho hh v h2, wide_real X3 a h3,
    wide_real X4 b h4, same_real X5 w h5, state_real Sv S hS, head_rec]

theorem outStore_lift (f g : Matrix (Fin 64) (Fin 128) ℝ) (i : Fin 64) (y : Fin 128) :
    outStore (lift .f32 (vcat f g)) (ix2 i y) = ((f i y : ℝ) : EReal) := by
  unfold outStore
  rw [lift_up]
  rfl

theorem stStore_lift (f g : Matrix (Fin 64) (Fin 128) ℝ) (z : Fin 1) (i : Fin 64) (y : Fin 128) :
    stStore (lift .f32 (vcat f g)) (ix3 z i y) = ((g i y : ℝ) : EReal) := by
  unfold stStore
  rw [lift_dn]
  pointwise
  rfl

end Cert.Head
-- ==== Proof.Pieces.lean ====
/- The pieces a point's run stores, in closed form: after `n` head-chunks, the outputs' rectangles and
   the states', each the head-chunk of what was loaded for it. -/
module

public import proofs.«01_k».proof.Proof.Gen.KernelIdeal.Frame
public import proofs.«01_k».proof.Proof.HeadLoad

@[expose] public section

set_option maxRecDepth 16384

noncomputable section

namespace Cert.Head

open Cert.KernelIdeal Cert.KernelIdeal.Gen Idealize.ShloMosaic Idealize.SL.Sem

/-- The `n`-th head-chunk's first token and head. -/
abbrev tok (n : ℕ) : ℕ := n / 8 % 2 * 64
abbrev hd (n : ℕ) : ℕ := n % 8

theorem tok_lt (n : ℕ) : tok n + 64 ≤ 128 := by unfold tok; omega
theorem hd_lt (n : ℕ) : hd n < 8 := by unfold hd; omega

theorem inbX (n : ℕ) : ∀ a, (![tok n, hd n * 64] : Fin 2 → ℕ) a + S64x64.size a ≤ S128x512.size a := by
  have := tok_lt n; have := hd_lt n
  intro a; fin_cases a
  · show tok n + 64 ≤ 128; omega
  · show hd n * 64 + 64 ≤ 512; omega
theorem inbV (n : ℕ) : ∀ a, (![tok n, hd n * 128] : Fin 2 → ℕ) a + S64x128.size a ≤ S128x1024.size a := by
  have := tok_lt n; have := hd_lt n
  intro a; fin_cases a
  · show tok n + 64 ≤ 128; omega
  · show hd n * 128 + 128 ≤ 1024; omega
theorem inbS (n : ℕ) : ∀ a, (![hd n, 0, 0] : Fin 3 → ℕ) a + S1x64x128.size a ≤ S8x64x128.size a := by
  have := hd_lt n
  intro a; fin_cases a
  · show hd n + 1 ≤ 8; omega
  · show 0 + 64 ≤ 64; omega
  · show 0 + 128 ≤ 128; omega
theorem inbT (n : ℕ) : ∀ a, (![hd n, 0, 0] : Fin 3 → ℕ) a + S1x128x64.size a ≤ S8x128x64.size a := by
  have := hd_lt n
  intro a; fin_cases a
  · show hd n + 1 ≤ 8; omega
  · show 0 + 128 ≤ 128; omega
  · show 0 + 64 ≤ 64; omega
theorem slicesH (n : ℕ) : S128x8.Slices ![tok n, hd n] S64x1 := by
  refine ⟨rfl, fun a => ?_⟩
  have := tok_lt n; have := hd_lt n
  fin_cases a
  · show tok n + 64 ≤ 128; omega
  · show hd n + 1 ≤ 8; omega

/-- The rectangles a head-chunk reads and writes. -/
abbrev rX (n : ℕ) : Rect S128x512 := Rect.unit (s := S128x512) ![tok n, hd n * 64] S64x64.size (inbX n)
abbrev rV (n : ℕ) : Rect S128x1024 := Rect.unit (s := S128x1024) ![tok n, hd n * 128] S64x128.size (inbV n)
abbrev rS (n : ℕ) : Rect S8x64x128 := Rect.unit (s := S8x64x128) ![hd n, 0, 0] S1x64x128.size (inbS n)
abbrev rT (n : ℕ) : Rect S8x128x64 := Rect.unit (s := S8x128x64) ![hd n, 0, 0] S1x128x64.size (inbT n)
abbrev rW : Rect S8x128 := Rect.unit (s := S8x128) ![0, 0] S8x128.size inb_S8x128_S8x128_0_0

section Read

variable (arg2 : Memref sig .tc .vmem S128x512 .fp8e4m3) (harg2 : arg2.IsWhole) (arg3 : Memref sig .tc .vmem S128x512 .fp8e4m3) (harg3 : arg3.IsWhole) (arg4 : Memref sig .tc .vmem S128x1024 .fp8e4m3) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole)
  (x0 : Vec Ideal S128x512 .fp8e4m3) (x1 : Vec Ideal S128x512 .fp8e4m3) (x2 : Vec Ideal S128x1024 .fp8e4m3) (x3 : Vec Ideal S128x512 .bf16) (x4 : Vec Ideal S128x512 .bf16) (x5 : Vec Ideal S128x512 .f32) (x6 : Vec Ideal S8x128 .f32) (x7 : Vec Ideal S8x128 .f32) (x8 : Vec Ideal S8x128 .f32)

/-- The `n`-th head-chunk, of the state loaded. -/
def zR (n : ℕ) (Sv : Vec Ideal S1x64x128 .f32) : FVec Ideal S128x128 .f32 :=
  headAt (tok n) (hd n) (slicesH n) (View.readAt (Elt Ideal) arg2.view (rX n).toLoadRect (harg2.unread x0)) (View.readAt (Elt Ideal) arg3.view (rX n).toLoadRect (harg3.unread x1)) (View.readAt (Elt Ideal) arg4.view (rV n).toLoadRect (harg4.unread x2)) (View.readAt (Elt Ideal) arg5.view (rX n).toLoadRect (harg5.unread x3)) (View.readAt (Elt Ideal) arg6.view (rX n).toLoadRect (harg6.unread x4)) (View.readAt (Elt Ideal) arg7.view (rX n).toLoadRect (harg7.unread x5)) (View.readAt (Elt Ideal) arg8.view (rW).toLoadRect (harg8.unread x6)) (View.readAt (Elt Ideal) arg9.view (rW).toLoadRect (harg9.unread x7)) (View.readAt (Elt Ideal) arg10.view (rW).toLoadRect (harg10.unread x8)) Sv

end Read

section Pieces

variable (z : ℕ → Vec Ideal S1x64x128 .f32 → FVec Ideal S128x128 .f32) (ld : ℕ → List (View.Piece (Elt Ideal) S8x64x128 .f32) → Vec Ideal S1x64x128 .f32)
  (L0 : List (View.Piece (Elt Ideal) S8x64x128 .f32))

/-- The states stored by the first `n` head-chunks, last first, over what was stored before; each loads its state by `ld`. -/
def stL : ℕ → List (View.Piece (Elt Ideal) S8x64x128 .f32)
  | 0 => L0
  | n + 1 => ⟨rS n, stStore (z n (ld n (stL n)))⟩ :: stL n

/-- The outputs they store. -/
def outL : ℕ → List (View.Piece (Elt Ideal) S128x1024 .bf16)
  | 0 => []
  | n + 1 => ⟨rV n, outStore (z n (ld n (stL z ld L0 n)))⟩ :: outL n

/-- The states the first point of a head group stores before: the first `n` heads', from the given ones, transposed. -/
def initL (x9 : ℕ → Vec Ideal S1x128x64 .f32) : ℕ → List (View.Piece (Elt Ideal) S8x64x128 .f32)
  | 0 => []
  | n + 1 => ⟨rS n, shapeCast S1x64x128 (transpose S64x128 [1, 0] (shapeCast S128x64 (x9 n) shapeCasts_S1x128x64_S128x64)
      transposes_S128x64_p1_0_S64x128) shapeCasts_S64x128_S1x64x128⟩ :: initL x9 n

/-- The final states the last point stores: the first `n` heads', transposed. -/
def finL (y : ℕ → Vec Ideal S1x64x128 .f32) : ℕ → List (View.Piece (Elt Ideal) S8x128x64 .f32)
  | 0 => []
  | n + 1 => ⟨rT n, shapeCast S1x128x64 (transpose S128x64 [1, 0] (shapeCast S64x128 (y n) shapeCasts_S1x64x128_S64x128)
      transposes_S64x128_p1_0_S128x64) shapeCasts_S128x64_S1x128x64⟩ :: finL y n

end Pieces

end Cert.Head
-- ==== Proof.PieceRuns.lean ====
/- What the generated runs of a point store is the closed form's pieces: at a middle point, at the last
   one of a head group, which also stores the final states, and at the first, which fills the scratch. -/
module

public import proofs.«01_k».proof.Proof.Pieces

@[expose] public section

set_option maxRecDepth 16384

noncomputable section

namespace Cert.Head

open Cert.KernelIdeal Cert.KernelIdeal.Gen Idealize.ShloMosaic Idealize.SL.Sem

/-- At a middle point: the outputs -/
theorem outB (c : Dev nD) (i : grid0.Coords) (arg2 : Memref sig .tc .vmem S128x512 .fp8e4m3) (harg2 : arg2.IsWhole) (arg3 : Memref sig .tc .vmem S128x512 .fp8e4m3) (harg3 : arg3.IsWhole) (arg4 : Memref sig .tc .vmem S128x1024 .fp8e4m3) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128x64 .f32) (harg11 : arg11.IsWhole) (arg12 : Memref sig .tc .vmem S128x1024 .bf16) (harg12 : arg12.IsWhole) (arg13 : Memref sig .tc .vmem S8x128x64 .f32) (harg13 : arg13.IsWhole) (arg14 : Memref sig .tc .vmem S8x64x128 .f32) (harg14 : arg14.IsWhole) (hc0 : ¬cond0_0 i) (hc1 : ¬cond0_1 i)
    (x0 : Vec Ideal S128x512 .fp8e4m3) (x1 : Vec Ideal S128x512 .fp8e4m3) (x2 : Vec Ideal S128x1024 .fp8e4m3) (x3 : Vec Ideal S128x512 .bf16) (x4 : Vec Ideal S128x512 .bf16) (x5 : Vec Ideal S128x512 .f32) (x6 : Vec Ideal S8x128 .f32) (x7 : Vec Ideal S8x128 .f32) (x8 : Vec Ideal S8x128 .f32) (x9 : Vec Ideal S8x128x64 .f32) (xs0 : Vec Ideal S8x64x128 .f32) : (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0).1 = outL (zR arg2 harg2 arg3 harg3 arg4 harg4 arg5 harg5 arg6 harg6 arg7 harg7 arg8 harg8 arg9 harg9 arg10 harg10 x0 x1 x2 x3 x4 x5 x6 x7 x8) (fun n L => match n / 8 with | 0 => View.readAt (Elt Ideal) arg14.view (rS n).toLoadRect (harg14.unread xs0) | _ + 1 => arg14.view.readCov L (rS n).toLoadRect) [] 16 := by
  unfold kernelRun0_B
  rfl

/-- and the states. -/
theorem stB (c : Dev nD) (i : grid0.Coords) (arg2 : Memref sig .tc .vmem S128x512 .fp8e4m3) (harg2 : arg2.IsWhole) (arg3 : Memref sig .tc .vmem S128x512 .fp8e4m3) (harg3 : arg3.IsWhole) (arg4 : Memref sig .tc .vmem S128x1024 .fp8e4m3) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128x64 .f32) (harg11 : arg11.IsWhole) (arg12 : Memref sig .tc .vmem S128x1024 .bf16) (harg12 : arg12.IsWhole) (arg13 : Memref sig .tc .vmem S8x128x64 .f32) (harg13 : arg13.IsWhole) (arg14 : Memref sig .tc .vmem S8x64x128 .f32) (harg14 : arg14.IsWhole) (hc0 : ¬cond0_0 i) (hc1 : ¬cond0_1 i)
    (x0 : Vec Ideal S128x512 .fp8e4m3) (x1 : Vec Ideal S128x512 .fp8e4m3) (x2 : Vec Ideal S128x1024 .fp8e4m3) (x3 : Vec Ideal S128x512 .bf16) (x4 : Vec Ideal S128x512 .bf16) (x5 : Vec Ideal S128x512 .f32) (x6 : Vec Ideal S8x128 .f32) (x7 : Vec Ideal S8x128 .f32) (x8 : Vec Ideal S8x128 .f32) (x9 : Vec Ideal S8x128x64 .f32) (xs0 : Vec Ideal S8x64x128 .f32) : (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0).2.2.1 = stL (zR arg2 harg2 arg3 harg3 arg4 harg4 arg5 harg5 arg6 harg6 arg7 harg7 arg8 harg8 arg9 harg9 arg10 harg10 x0 x1 x2 x3 x4 x5 x6 x7 x8) (fun n L => match n / 8 with | 0 => View.readAt (Elt Ideal) arg14.view (rS n).toLoadRect (harg14.unread xs0) | _ + 1 => arg14.view.readCov L (rS n).toLoadRect) [] 16 := by
  unfold kernelRun0_B
  rfl

/-- At the last point: the outputs, -/
theorem outC (c : Dev nD) (i : grid0.Coords) (arg2 : Memref sig .tc .vmem S128x512 .fp8e4m3) (harg2 : arg2.IsWhole) (arg3 : Memref sig .tc .vmem S128x512 .fp8e4m3) (harg3 : arg3.IsWhole) (arg4 : Memref sig .tc .vmem S128x1024 .fp8e4m3) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128x64 .f32) (harg11 : arg11.IsWhole) (arg12 : Memref sig .tc .vmem S128x1024 .bf16) (harg12 : arg12.IsWhole) (arg13 : Memref sig .tc .vmem S8x128x64 .f32) (harg13 : arg13.IsWhole) (arg14 : Memref sig .tc .vmem S8x64x128 .f32) (harg14 : arg14.IsWhole) (hc0 : ¬cond0_0 i) (hc1 : cond0_1 i)
    (x0 : Vec Ideal S128x512 .fp8e4m3) (x1 : Vec Ideal S128x512 .fp8e4m3) (x2 : Vec Ideal S128x1024 .fp8e4m3) (x3 : Vec Ideal S128x512 .bf16) (x4 : Vec Ideal S128x512 .bf16) (x5 : Vec Ideal S128x512 .f32) (x6 : Vec Ideal S8x128 .f32) (x7 : Vec Ideal S8x128 .f32) (x8 : Vec Ideal S8x128 .f32) (x9 : Vec Ideal S8x128x64 .f32) (xs0 : Vec Ideal S8x64x128 .f32) : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0).1 = outL (zR arg2 harg2 arg3 harg3 arg4 harg4 arg5 harg5 arg6 harg6 arg7 harg7 arg8 harg8 arg9 harg9 arg10 harg10 x0 x1 x2 x3 x4 x5 x6 x7 x8) (fun n L => match n / 8 with | 0 => View.readAt (Elt Ideal) arg14.view (rS n).toLoadRect (harg14.unread xs0) | _ + 1 => arg14.view.readCov L (rS n).toLoadRect) [] 16 := by
  unfold kernelRun0_C
  rfl

/-- the states, -/
theorem stC (c : Dev nD) (i : grid0.Coords) (arg2 : Memref sig .tc .vmem S128x512 .fp8e4m3) (harg2 : arg2.IsWhole) (arg3 : Memref sig .tc .vmem S128x512 .fp8e4m3) (harg3 : arg3.IsWhole) (arg4 : Memref sig .tc .vmem S128x1024 .fp8e4m3) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128x64 .f32) (harg11 : arg11.IsWhole) (arg12 : Memref sig .tc .vmem S128x1024 .bf16) (harg12 : arg12.IsWhole) (arg13 : Memref sig .tc .vmem S8x128x64 .f32) (harg13 : arg13.IsWhole) (arg14 : Memref sig .tc .vmem S8x64x128 .f32) (harg14 : arg14.IsWhole) (hc0 : ¬cond0_0 i) (hc1 : cond0_1 i)
    (x0 : Vec Ideal S128x512 .fp8e4m3) (x1 : Vec Ideal S128x512 .fp8e4m3) (x2 : Vec Ideal S128x1024 .fp8e4m3) (x3 : Vec Ideal S128x512 .bf16) (x4 : Vec Ideal S128x512 .bf16) (x5 : Vec Ideal S128x512 .f32) (x6 : Vec Ideal S8x128 .f32) (x7 : Vec Ideal S8x128 .f32) (x8 : Vec Ideal S8x128 .f32) (x9 : Vec Ideal S8x128x64 .f32) (xs0 : Vec Ideal S8x64x128 .f32) : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0).2.2.1 = stL (zR arg2 harg2 arg3 harg3 arg4 harg4 arg5 harg5 arg6 harg6 arg7 harg7 arg8 harg8 arg9 harg9 arg10 harg10 x0 x1 x2 x3 x4 x5 x6 x7 x8) (fun n L => match n / 8 with | 0 => View.readAt (Elt Ideal) arg14.view (rS n).toLoadRect (harg14.unread xs0) | _ + 1 => arg14.view.readCov L (rS n).toLoadRect) [] 16 := by
  unfold kernelRun0_C
  rfl

/-- and the final states. -/
theorem finC (c : Dev nD) (i : grid0.Coords) (arg2 : Memref sig .tc .vmem S128x512 .fp8e4m3) (harg2 : arg2.IsWhole) (arg3 : Memref sig .tc .vmem S128x512 .fp8e4m3) (harg3 : arg3.IsWhole) (arg4 : Memref sig .tc .vmem S128x1024 .fp8e4m3) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128x64 .f32) (harg11 : arg11.IsWhole) (arg12 : Memref sig .tc .vmem S128x1024 .bf16) (harg12 : arg12.IsWhole) (arg13 : Memref sig .tc .vmem S8x128x64 .f32) (harg13 : arg13.IsWhole) (arg14 : Memref sig .tc .vmem S8x64x128 .f32) (harg14 : arg14.IsWhole) (hc0 : ¬cond0_0 i) (hc1 : cond0_1 i)
    (x0 : Vec Ideal S128x512 .fp8e4m3) (x1 : Vec Ideal S128x512 .fp8e4m3) (x2 : Vec Ideal S128x1024 .fp8e4m3) (x3 : Vec Ideal S128x512 .bf16) (x4 : Vec Ideal S128x512 .bf16) (x5 : Vec Ideal S128x512 .f32) (x6 : Vec Ideal S8x128 .f32) (x7 : Vec Ideal S8x128 .f32) (x8 : Vec Ideal S8x128 .f32) (x9 : Vec Ideal S8x128x64 .f32) (xs0 : Vec Ideal S8x64x128 .f32) : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0).2.1 = finL (fun n => arg14.view.readCov (stL (zR arg2 harg2 arg3 harg3 arg4 harg4 arg5 harg5 arg6 harg6 arg7 harg7 arg8 harg8 arg9 harg9 arg10 harg10 x0 x1 x2 x3 x4 x5 x6 x7 x8) (fun n L => match n / 8 with | 0 => View.readAt (Elt Ideal) arg14.view (rS n).toLoadRect (harg14.unread xs0) | _ + 1 => arg14.view.readCov L (rS n).toLoadRect) [] 16) (rS n).toLoadRect) 8 := by
  unfold kernelRun0_C
  rfl

/-- At the first point: the outputs, -/
theorem outA (c : Dev nD) (i : grid0.Coords) (arg2 : Memref sig .tc .vmem S128x512 .fp8e4m3) (harg2 : arg2.IsWhole) (arg3 : Memref sig .tc .vmem S128x512 .fp8e4m3) (harg3 : arg3.IsWhole) (arg4 : Memref sig .tc .vmem S128x1024 .fp8e4m3) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128x64 .f32) (harg11 : arg11.IsWhole) (arg12 : Memref sig .tc .vmem S128x1024 .bf16) (harg12 : arg12.IsWhole) (arg13 : Memref sig .tc .vmem S8x128x64 .f32) (harg13 : arg13.IsWhole) (arg14 : Memref sig .tc .vmem S8x64x128 .f32) (harg14 : arg14.IsWhole) (hc0 : cond0_0 i) (hc1 : ¬cond0_1 i)
    (x0 : Vec Ideal S128x512 .fp8e4m3) (x1 : Vec Ideal S128x512 .fp8e4m3) (x2 : Vec Ideal S128x1024 .fp8e4m3) (x3 : Vec Ideal S128x512 .bf16) (x4 : Vec Ideal S128x512 .bf16) (x5 : Vec Ideal S128x512 .f32) (x6 : Vec Ideal S8x128 .f32) (x7 : Vec Ideal S8x128 .f32) (x8 : Vec Ideal S8x128 .f32) (x9 : Vec Ideal S8x128x64 .f32) : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).1 = outL (zR arg2 harg2 arg3 harg3 arg4 harg4 arg5 harg5 arg6 harg6 arg7 harg7 arg8 harg8 arg9 harg9 arg10 harg10 x0 x1 x2 x3 x4 x5 x6 x7 x8) (fun n L => arg14.view.readCov L (rS n).toLoadRect) (initL (fun n => View.readAt (Elt Ideal) arg11.view (rT n).toLoadRect (harg11.unread x9)) 8) 16 := by
  unfold kernelRun0_A
  rfl

/-- and the states, over the initial ones. -/
theorem stA (c : Dev nD) (i : grid0.Coords) (arg2 : Memref sig .tc .vmem S128x512 .fp8e4m3) (harg2 : arg2.IsWhole) (arg3 : Memref sig .tc .vmem S128x512 .fp8e4m3) (harg3 : arg3.IsWhole) (arg4 : Memref sig .tc .vmem S128x1024 .fp8e4m3) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128x64 .f32) (harg11 : arg11.IsWhole) (arg12 : Memref sig .tc .vmem S128x1024 .bf16) (harg12 : arg12.IsWhole) (arg13 : Memref sig .tc .vmem S8x128x64 .f32) (harg13 : arg13.IsWhole) (arg14 : Memref sig .tc .vmem S8x64x128 .f32) (harg14 : arg14.IsWhole) (hc0 : cond0_0 i) (hc1 : ¬cond0_1 i)
    (x0 : Vec Ideal S128x512 .fp8e4m3) (x1 : Vec Ideal S128x512 .fp8e4m3) (x2 : Vec Ideal S128x1024 .fp8e4m3) (x3 : Vec Ideal S128x512 .bf16) (x4 : Vec Ideal S128x512 .bf16) (x5 : Vec Ideal S128x512 .f32) (x6 : Vec Ideal S8x128 .f32) (x7 : Vec Ideal S8x128 .f32) (x8 : Vec Ideal S8x128 .f32) (x9 : Vec Ideal S8x128x64 .f32) : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.2.1 = stL (zR arg2 harg2 arg3 harg3 arg4 harg4 arg5 harg5 arg6 harg6 arg7 harg7 arg8 harg8 arg9 harg9 arg10 harg10 x0 x1 x2 x3 x4 x5 x6 x7 x8) (fun n L => arg14.view.readCov L (rS n).toLoadRect) (initL (fun n => View.readAt (Elt Ideal) arg11.view (rT n).toLoadRect (harg11.unread x9)) 8) 16 := by
  unfold kernelRun0_A
  rfl

end Cert.Head
-- ==== Proof.Step.lean ====
/- What a point's pieces are on real inputs: the recurrence's outputs and states of its 128 tokens. -/
module

public import proofs.«01_k».proof.Proof.Pieces

@[expose] public section

set_option maxRecDepth 16384

noncomputable section

namespace Cert.Head

open Cert.KernelIdeal Cert.KernelIdeal.Gen Idealize.ShloMosaic Idealize.SL.Sem

/-- Real sequences of each head: the recurrence's operands at each token, and the state before. -/
structure Seqs where
  r : ℕ → ℕ → Fin 64 → ℝ
  k : ℕ → ℕ → Fin 64 → ℝ
  v : ℕ → ℕ → Fin 128 → ℝ
  a : ℕ → ℕ → Fin 64 → ℝ
  b : ℕ → ℕ → Fin 64 → ℝ
  w : ℕ → ℕ → Fin 64 → ℝ
  S : ℕ → Matrix (Fin 64) (Fin 128) ℝ

/-- Head `h`'s state after `m` tokens, and its output at token `m`. -/
def Seqs.st (q : Seqs) (h m : ℕ) : Matrix (Fin 64) (Fin 128) ℝ := Cert.Rec.st (q.a h) (q.b h) (q.k h) (q.w h) (q.v h) (q.S h) m
def Seqs.out (q : Seqs) (h m : ℕ) (y : Fin 128) : ℝ := Cert.Rec.out (q.r h) (q.a h) (q.b h) (q.k h) (q.w h) (q.v h) (q.S h) m y

/-- The window's blocks hold the sequences of its eight heads. -/
structure Holds (q : Seqs) (x0 x1 : Vec Ideal S128x512 .fp8e4m3) (x2 : Vec Ideal S128x1024 .fp8e4m3) (x3 x4 : Vec Ideal S128x512 .bf16)
    (x5 : Vec Ideal S128x512 .f32) (x6 x7 x8 : Vec Ideal S8x128 .f32) : Prop where
  r : ∀ (t : Fin 128) (h : Fin 8) (x : Fin 64), x0 (ix2 t ⟨h.val * 64 + x.val, by omega⟩) * x6 (ix2 h t) = ((q.r h.val t.val x : ℝ) : EReal)
  k : ∀ (t : Fin 128) (h : Fin 8) (x : Fin 64), x1 (ix2 t ⟨h.val * 64 + x.val, by omega⟩) * x7 (ix2 h t) = ((q.k h.val t.val x : ℝ) : EReal)
  v : ∀ (t : Fin 128) (h : Fin 8) (x : Fin 128), x2 (ix2 t ⟨h.val * 128 + x.val, by omega⟩) * x8 (ix2 h t) = ((q.v h.val t.val x : ℝ) : EReal)
  a : ∀ (t : Fin 128) (h : Fin 8) (x : Fin 64), x3 (ix2 t ⟨h.val * 64 + x.val, by omega⟩) = ((q.a h.val t.val x : ℝ) : EReal)
  b : ∀ (t : Fin 128) (h : Fin 8) (x : Fin 64), x4 (ix2 t ⟨h.val * 64 + x.val, by omega⟩) = ((q.b h.val t.val x : ℝ) : EReal)
  w : ∀ (t : Fin 128) (h : Fin 8) (x : Fin 64), x5 (ix2 t ⟨h.val * 64 + x.val, by omega⟩) = ((q.w h.val t.val x : ℝ) : EReal)

/-- What a head-chunk function gives on a real state: the recurrence's outputs and state from there. -/
def Good (q : Seqs) (z : ℕ → Vec Ideal S1x64x128 .f32 → FVec Ideal S128x128 .f32) : Prop :=
  ∀ n (Sv : Vec Ideal S1x64x128 .f32), (∀ (i : Fin 64) (y : Fin 128), Sv (ix3 0 i y) = ((q.st (hd n) (tok n) i y : ℝ) : EReal)) →
    z n Sv = lift .f32 (vcat (fun i y => q.out (hd n) (tok n + i.val) y) (q.st (hd n) (tok n + 64)))

theorem emb_rX (n : ℕ) (i x : Fin 64) : (rX n).emb (ix2 i x)
    = ix2 (⟨tok n + i.val, by have := tok_lt n; omega⟩ : Fin 128) (⟨hd n * 64 + x.val, by have := hd_lt n; omega⟩ : Fin 512) := by
  funext a; fin_cases a <;> exact Fin.ext (by simp [Rect.emb, Rect.unit])

theorem emb_rV (n : ℕ) (i : Fin 64) (x : Fin 128) : (rV n).emb (ix2 i x)
    = ix2 (⟨tok n + i.val, by have := tok_lt n; omega⟩ : Fin 128) (⟨hd n * 128 + x.val, by have := hd_lt n; omega⟩ : Fin 1024) := by
  funext a; fin_cases a <;> exact Fin.ext (by simp [Rect.emb, Rect.unit])

theorem emb_rS (n : ℕ) (i : Fin 64) (x : Fin 128) : (rS n).emb (ix3 0 i x) = ix3 (⟨hd n, hd_lt n⟩ : Fin 8) i x := by
  funext a; fin_cases a <;> exact Fin.ext (by simp [Rect.emb, Rect.unit])

theorem emb_rT (n : ℕ) (i : Fin 128) (x : Fin 64) : (rT n).emb (ix3 0 i x) = ix3 (⟨hd n, hd_lt n⟩ : Fin 8) i x := by
  funext a; fin_cases a <;> exact Fin.ext (by simp [Rect.emb, Rect.unit])

section Read

variable (arg2 : Memref sig .tc .vmem S128x512 .fp8e4m3) (harg2 : arg2.IsWhole) (arg3 : Memref sig .tc .vmem S128x512 .fp8e4m3) (harg3 : arg3.IsWhole)
  (arg4 : Memref sig .tc .vmem S128x1024 .fp8e4m3) (harg4 : arg4.IsWhole) (arg5 : Memref sig .tc .vmem S128x512 .bf16) (harg5 : arg5.IsWhole)
  (arg6 : Memref sig .tc .vmem S128x512 .bf16) (harg6 : arg6.IsWhole) (arg7 : Memref sig .tc .vmem S128x512 .f32) (harg7 : arg7.IsWhole)
  (arg8 : Memref sig .tc .vmem S8x128 .f32) (harg8 : arg8.IsWhole) (arg9 : Memref sig .tc .vmem S8x128 .f32) (harg9 : arg9.IsWhole)
  (arg10 : Memref sig .tc .vmem S8x128 .f32) (harg10 : arg10.IsWhole)
  (x0 x1 : Vec Ideal S128x512 .fp8e4m3) (x2 : Vec Ideal S128x1024 .fp8e4m3) (x3 x4 : Vec Ideal S128x512 .bf16) (x5 : Vec Ideal S128x512 .f32)
  (x6 x7 x8 : Vec Ideal S8x128 .f32)

theorem ld_rW (x : Vec Ideal S8x128 .f32) : View.ld x rW = x :=
  View.ld_unit_zero (by funext a; fin_cases a <;> rfl) _ x

/-- A point's head-chunks, over blocks that hold the sequences. -/
theorem zR_good (q : Seqs) (hq : Holds q x0 x1 x2 x3 x4 x5 x6 x7 x8) :
    Good q (zR arg2 harg2 arg3 harg3 arg4 harg4 arg5 harg5 arg6 harg6 arg7 harg7 arg8 harg8 arg9 harg9 arg10 harg10 x0 x1 x2 x3 x4 x5 x6 x7 x8) := by
  intro n Sv hS
  have hc := tok_lt n
  have hh := hd_lt n
  unfold zR
  simp only [View.readAt_eq_ld, harg2.read_unread, harg3.read_unread, harg4.read_unread, harg5.read_unread, harg6.read_unread,
    harg7.read_unread, harg8.read_unread, harg9.read_unread, harg10.read_unread, ld_rW]
  rw [headAt_real (tok n) (hd n) _ _ _ _ _ _ _ x6 x7 x8 Sv hc hh (fun j => q.r (hd n) (tok n + j)) (fun j => q.k (hd n) (tok n + j))
    (fun j => q.a (hd n) (tok n + j)) (fun j => q.b (hd n) (tok n + j)) (fun j => q.w (hd n) (tok n + j)) (fun j => q.v (hd n) (tok n + j))
    (q.st (hd n) (tok n)) ?_ ?_ ?_ ?_ ?_ ?_ hS]
  · refine congrArg _ (congrArg₂ _ ?_ ?_)
    · funext i y
      exact (Cert.Rec.out_add _ _ _ _ _ _ _ _ _ _).symm
    · exact (Cert.Rec.st_add _ _ _ _ _ _ _ _).symm
  · intro i x
    show x0 ((rX n).emb (ix2 i x)) * _ = _
    rw [emb_rX]; exact hq.r ⟨tok n + i.val, by omega⟩ ⟨hd n, hh⟩ x
  · intro i x
    show x1 ((rX n).emb (ix2 i x)) * _ = _
    rw [emb_rX]; exact hq.k ⟨tok n + i.val, by omega⟩ ⟨hd n, hh⟩ x
  · intro i x
    show x2 ((rV n).emb (ix2 i x)) * _ = _
    rw [emb_rV]; exact hq.v ⟨tok n + i.val, by omega⟩ ⟨hd n, hh⟩ x
  · intro i x
    show x3 ((rX n).emb (ix2 i x)) = _
    rw [emb_rX]; exact hq.a ⟨tok n + i.val, by omega⟩ ⟨hd n, hh⟩ x
  · intro i x
    show x4 ((rX n).emb (ix2 i x)) = _
    rw [emb_rX]; exact hq.b ⟨tok n + i.val, by omega⟩ ⟨hd n, hh⟩ x
  · intro i x
    show x5 ((rX n).emb (ix2 i x)) = _
    rw [emb_rX]; exact hq.w ⟨tok n + i.val, by omega⟩ ⟨hd n, hh⟩ x

end Read

/-! ### Folding over the head-chunks -/

/-- How many of the first `n` head-chunks are of head `h`. -/
abbrev cnt (n h : ℕ) : ℕ := (n + 7 - h) / 8

/-- Head `h`'s state in the scratch is the one after the chunks done. -/
def StAt (q : Seqs) (L : List (View.Piece (Elt Ideal) S8x64x128 .f32)) (n : ℕ) (h : Fin 8) : Prop :=
  ∀ (i : Fin 64) (y : Fin 128), View.canon L (ix3 h i y) = ((q.st h.val (cnt n h.val * 64) i y : ℝ) : EReal)

section Fold

variable (q : Seqs) (z : ℕ → Vec Ideal S1x64x128 .f32 → FVec Ideal S128x128 .f32) (hz : Good q z)
  (ld : ℕ → List (View.Piece (Elt Ideal) S8x64x128 .f32) → Vec Ideal S1x64x128 .f32) (L0 : List (View.Piece (Elt Ideal) S8x64x128 .f32))
  (base : Prop) (hL0 : base → ∀ h, StAt q L0 0 h)
  (hld : ∀ n, n < 16 → ∀ L, (base ∨ hd n < n → StAt q L n ⟨hd n, hd_lt n⟩) →
    ∀ (i : Fin 64) (y : Fin 128), ld n L (ix3 0 i y) = ((q.st (hd n) (tok n) i y : ℝ) : EReal))

theorem canon_hit (n : ℕ) (L : List (View.Piece (Elt Ideal) S8x64x128 .f32)) (P : Vec Ideal S1x64x128 .f32) (i : Fin 64) (y : Fin 128) :
    View.canon ((⟨rS n, P⟩ : View.Piece (Elt Ideal) S8x64x128 .f32) :: L) (ix3 (⟨hd n, hd_lt n⟩ : Fin 8) i y) = P (ix3 0 i y) := by
  rw [← emb_rS n i y]
  exact View.canon_cons_emb (rS n) P L (ix3 0 i y)

theorem canon_miss (n : ℕ) (L : List (View.Piece (Elt Ideal) S8x64x128 .f32)) (P : Vec Ideal S1x64x128 .f32) (h : Fin 8) (hne : h.val ≠ hd n)
    (i : Fin 64) (y : Fin 128) :
    View.canon ((⟨rS n, P⟩ : View.Piece (Elt Ideal) S8x64x128 .f32) :: L) (ix3 h i y) = View.canon L (ix3 h i y) := by
  refine View.canon_cons_of_not_mem _ L fun hm => ?_
  have h0 : hd n ≤ h.val ∧ h.val < hd n + 1 := (Rect.mem_set_unit (inb := inbS n)).mp hm 0
  omega

include hz hL0 hld

theorem stL_at (n : ℕ) (hn : n ≤ 16) (h : Fin 8) (hb : base ∨ h.val < n) : StAt q (stL z ld L0 n) n h := by
  induction n generalizing h with
  | zero => exact hL0 (hb.resolve_right (by omega)) h
  | succ n ih =>
    intro i y
    unfold stL
    by_cases e : h.val = hd n
    · obtain rfl : h = ⟨hd n, hd_lt n⟩ := Fin.ext e
      rw [canon_hit, hz n _ (hld n (by omega) _ fun hg => ih (by omega) _ hg)]
      refine (stStore_lift _ _ _ _ _).trans ?_
      have : tok n + 64 = cnt (n + 1) (hd n) * 64 := by unfold cnt hd tok; omega
      rw [this]
    · rw [canon_miss _ _ _ _ e, ih (by omega) h (hb.imp_right fun hb => by unfold hd at e; omega) i y]
      have : cnt (n + 1) h.val = cnt n h.val := by unfold cnt; unfold hd at e; omega
      rw [this]

theorem outL_at (n : ℕ) (hn : n ≤ 16) (t : Fin 128) (h : Fin 8) (y : Fin 128) (hd' : t.val / 64 * 8 + h.val < n) :
    View.canon (outL z ld L0 n) (ix2 t (⟨h.val * 128 + y.val, by omega⟩ : Fin 1024)) = ((q.out h.val t.val y : ℝ) : EReal) := by
  induction n with
  | zero => omega
  | succ n ih =>
    unfold outL
    by_cases e : t.val / 64 * 8 + h.val = n
    · have ht : tok n = t.val / 64 * 64 := by unfold tok; omega
      have hh : hd n = h.val := by unfold hd; omega
      have hi : t.val % 64 < 64 := Nat.mod_lt _ (by omega)
      have hidx : ix2 t (⟨h.val * 128 + y.val, by omega⟩ : Fin 1024) = (rV n).emb (ix2 (⟨t.val % 64, hi⟩ : Fin 64) y) := by
        rw [emb_rV]
        refine congrArg₂ ix2 (Fin.ext ?_) (Fin.ext ?_)
        · show t.val = tok n + t.val % 64; omega
        · show h.val * 128 + y.val = hd n * 128 + y.val; omega
      rw [hidx]
      refine (View.canon_cons_emb (rV n) _ _ _).trans ?_
      rw [hz n _ (hld n (by omega) _ fun hg => stL_at q z hz ld L0 base hL0 hld n (by omega) _ hg)]
      refine (outStore_lift _ _ _ _).trans ?_
      rw [hh, ht]
      congr 2
      show t.val / 64 * 64 + t.val % 64 = t.val
      omega
    · rw [View.canon_cons_of_not_mem]
      · exact ih (by omega) (by omega)
      · intro hm
        have h0 : tok n ≤ t.val ∧ t.val < tok n + 64 := (Rect.mem_set_unit (inb := inbV n)).mp hm 0
        have h1 : hd n * 128 ≤ h.val * 128 + y.val ∧ h.val * 128 + y.val < hd n * 128 + 128 := (Rect.mem_set_unit (inb := inbV n)).mp hm 1
        unfold tok hd at *
        omega

end Fold

end Cert.Head
-- ==== Proof.Point.lean ====
/- What a grid point leaves, over blocks that hold real sequences: its outputs are those of the recurrence and the
   scratch is the state 128 tokens on, at each of the three kinds of point. -/
module

public import proofs.«01_k».proof.Proof.PieceRuns
public import proofs.«01_k».proof.Proof.Step

@[expose] public section

set_option maxRecDepth 16384

noncomputable section

namespace Cert.Head

open Cert.KernelIdeal Cert.KernelIdeal.Gen Idealize.ShloMosaic Idealize.SL.Sem

/-- A block of outputs is the recurrence's. -/
def OutOK (q : Seqs) (o : Vec Ideal S128x1024 .bf16) : Prop :=
  ∀ (t : Fin 128) (h : Fin 8) (y : Fin 128), o (ix2 t (⟨h.val * 128 + y.val, by omega⟩ : Fin 1024)) = ((q.out h.val t.val y : ℝ) : EReal)

/-- The scratch is the state after `m` tokens, -/
def StOK (q : Seqs) (m : ℕ) (s : Vec Ideal S8x64x128 .f32) : Prop :=
  ∀ (h : Fin 8) (i : Fin 64) (y : Fin 128), s (ix3 h i y) = ((q.st h.val m i y : ℝ) : EReal)

/-- and a block of states is, transposed. -/
def StTOK (q : Seqs) (m : ℕ) (s : Vec Ideal S8x128x64 .f32) : Prop :=
  ∀ (h : Fin 8) (y : Fin 128) (i : Fin 64), s (ix3 h y i) = ((q.st h.val m i y : ℝ) : EReal)

theorem tok_cnt (n : ℕ) (hn : n < 16) : cnt n (hd n) * 64 = tok n := by unfold cnt hd tok; omega

theorem StAt.tokens {q : Seqs} {L : List (View.Piece (Elt Ideal) S8x64x128 .f32)} {n : ℕ} {h : Fin 8} (hL : StAt q L n h) {m : ℕ}
    (e : cnt n h.val * 64 = m) (i : Fin 64) (y : Fin 128) : View.canon L (ix3 h i y) = ((q.st h.val m i y : ℝ) : EReal) := by
  subst e; exact hL i y

/-- A load of the scratch from what was stored there. -/
theorem readCov_at (q : Seqs) (arg14 : Memref sig .tc .vmem S8x64x128 .f32) (n m : ℕ) (L : List (View.Piece (Elt Ideal) S8x64x128 .f32))
    (hL : ∀ (i : Fin 64) (y : Fin 128), View.canon L (ix3 (⟨hd n, hd_lt n⟩ : Fin 8) i y) = ((q.st (hd n) m i y : ℝ) : EReal))
    (i : Fin 64) (y : Fin 128) :
    arg14.view.readCov L (rS n).toLoadRect (ix3 0 i y) = ((q.st (hd n) m i y : ℝ) : EReal) := by
  rw [View.readCov_eq_canon']
  show View.canon L ((rS n).emb (ix3 0 i y)) = _
  rw [emb_rS]
  exact hL i y

/-- The first point's loads. -/
theorem ldA_ok (q : Seqs) (arg14 : Memref sig .tc .vmem S8x64x128 .f32) (n : ℕ) (hn : n < 16) (L : List (View.Piece (Elt Ideal) S8x64x128 .f32))
    (hL : True ∨ hd n < n → StAt q L n ⟨hd n, hd_lt n⟩) (i : Fin 64) (y : Fin 128) :
    arg14.view.readCov L (rS n).toLoadRect (ix3 0 i y) = ((q.st (hd n) (tok n) i y : ℝ) : EReal) :=
  readCov_at q arg14 n (tok n) L ((hL (Or.inl trivial)).tokens (tok_cnt n hn)) i y

/-- The other points'. -/
theorem ldB_ok (q : Seqs) (arg14 : Memref sig .tc .vmem S8x64x128 .f32) (harg14 : arg14.IsWhole) (xs0 : Vec Ideal S8x64x128 .f32) (hs : StOK q 0 xs0)
    (n : ℕ) (hn : n < 16) (L : List (View.Piece (Elt Ideal) S8x64x128 .f32))
    (hL : False ∨ hd n < n → StAt q L n ⟨hd n, hd_lt n⟩) (i : Fin 64) (y : Fin 128) :
    (match n / 8 with | 0 => View.readAt (Elt Ideal) arg14.view (rS n).toLoadRect (harg14.unread xs0) | _ + 1 => arg14.view.readCov L (rS n).toLoadRect) (ix3 0 i y) = ((q.st (hd n) (tok n) i y : ℝ) : EReal) := by
  by_cases h8 : n < 8
  · have e : n / 8 = 0 := by omega
    have et : tok n = 0 := by unfold tok; omega
    rw [e, View.readAt_eq_ld, harg14.read_unread, et]
    show xs0 ((rS n).emb (ix3 0 i y)) = _
    rw [emb_rS]
    exact hs ⟨hd n, hd_lt n⟩ i y
  · have e : n / 8 = 0 + 1 := by omega
    rw [e]
    exact readCov_at q arg14 n (tok n) L ((hL (Or.inr (by unfold hd; omega))).tokens (tok_cnt n hn)) i y

/-- The initial states' pieces. -/
theorem initL_at (q : Seqs) (x9 : ℕ → Vec Ideal S1x128x64 .f32)
    (h9 : ∀ n, n < 8 → ∀ (y : Fin 128) (i : Fin 64), x9 n (ix3 0 y i) = ((q.S n i y : ℝ) : EReal)) (n : ℕ) (hn : n ≤ 8) (h : Fin 8) (hh : h.val < n)
    (i : Fin 64) (y : Fin 128) : View.canon (initL x9 n) (ix3 h i y) = ((q.S h.val i y : ℝ) : EReal) := by
  induction n with
  | zero => omega
  | succ n ih =>
    have hdn : hd n = n := by unfold hd; omega
    unfold initL
    by_cases e : h.val = hd n
    · obtain rfl : h = ⟨hd n, hd_lt n⟩ := Fin.ext e
      rw [canon_hit]
      refine Eq.trans ?_ ((h9 n (by omega) y i).trans ?_)
      · pointwise []
      · show _ = ((q.S (hd n) i y : ℝ) : EReal)
        rw [hdn]
    · rw [canon_miss _ _ _ _ e]
      exact ih (by omega) (by omega)

theorem initL_ok (q : Seqs) (arg11 : Memref sig .tc .vmem S8x128x64 .f32) (harg11 : arg11.IsWhole) (x9 : Vec Ideal S8x128x64 .f32) (h9 : StTOK q 0 x9)
    (h : Fin 8) : StAt q (initL (fun n => View.readAt (Elt Ideal) arg11.view (rT n).toLoadRect (harg11.unread x9)) 8) 0 h := by
  intro i y
  have e : cnt 0 h.val * 64 = 0 := by unfold cnt; omega
  rw [e]
  refine initL_at q _ (fun n hn y i => ?_) 8 le_rfl h h.isLt i y
  rw [View.readAt_eq_ld, harg11.read_unread]
  show x9 ((rT n).emb (ix3 0 y i)) = _
  rw [emb_rT, h9]
  show ((q.st (hd n) 0 i y : ℝ) : EReal) = _
  have hdn : hd n = n := by unfold hd; omega
  rw [hdn]
  rfl

/-- The final states' pieces. -/
theorem finL_at (q : Seqs) (m : ℕ) (s : ℕ → Vec Ideal S1x64x128 .f32)
    (hs : ∀ n (i : Fin 64) (y : Fin 128), s n (ix3 0 i y) = ((q.st (hd n) m i y : ℝ) : EReal)) (n : ℕ) (hn : n ≤ 8) (h : Fin 8) (hh : h.val < n)
    (y : Fin 128) (i : Fin 64) : View.canon (finL s n) (ix3 h y i) = ((q.st h.val m i y : ℝ) : EReal) := by
  induction n with
  | zero => omega
  | succ n ih =>
    have hdn : hd n = n := by unfold hd; omega
    unfold finL
    by_cases e : h.val = hd n
    · obtain rfl : h = ⟨hd n, hd_lt n⟩ := Fin.ext e
      rw [← emb_rT n y i]
      refine (View.canon_cons_emb (rT n) _ _ _).trans (Eq.trans ?_ (hs n i y))
      pointwise []
    · rw [View.canon_cons_of_not_mem]
      · exact ih (by omega) (by omega)
      · intro hm
        have h0 : hd n ≤ h.val ∧ h.val < hd n + 1 := (Rect.mem_set_unit (inb := inbT n)).mp hm 0
        omega

theorem cnt16 (h : Fin 8) : cnt 16 h.val * 64 = 128 := by unfold cnt; omega

/-- The outputs of a point of kind A, -/
theorem outA_ok (c : Dev nD) (i : grid0.Coords) (arg2 : Memref sig .tc .vmem S128x512 .fp8e4m3) (harg2 : arg2.IsWhole) (arg3 : Memref sig .tc .vmem S128x512 .fp8e4m3) (harg3 : arg3.IsWhole) (arg4 : Memref sig .tc .vmem S128x1024 .fp8e4m3) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128x64 .f32) (harg11 : arg11.IsWhole) (arg12 : Memref sig .tc .vmem S128x1024 .bf16) (harg12 : arg12.IsWhole) (arg13 : Memref sig .tc .vmem S8x128x64 .f32) (harg13 : arg13.IsWhole) (arg14 : Memref sig .tc .vmem S8x64x128 .f32) (harg14 : arg14.IsWhole) (hc0 : cond0_0 i) (hc1 : ¬cond0_1 i)
    (x0 : Vec Ideal S128x512 .fp8e4m3) (x1 : Vec Ideal S128x512 .fp8e4m3) (x2 : Vec Ideal S128x1024 .fp8e4m3) (x3 : Vec Ideal S128x512 .bf16) (x4 : Vec Ideal S128x512 .bf16) (x5 : Vec Ideal S128x512 .f32) (x6 : Vec Ideal S8x128 .f32) (x7 : Vec Ideal S8x128 .f32) (x8 : Vec Ideal S8x128 .f32) (x9 : Vec Ideal S8x128x64 .f32) (q : Seqs)
    (hq : Holds q x0 x1 x2 x3 x4 x5 x6 x7 x8) (h9 : StTOK q 0 x9) :
    OutOK q (out0_A_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9) := by
  intro t h y
  unfold out0_A_10
  rw [View.read_writes_junk_eq_canon, outA]
  exact outL_at q _ (zR_good arg2 harg2 arg3 harg3 arg4 harg4 arg5 harg5 arg6 harg6 arg7 harg7 arg8 harg8 arg9 harg9 arg10 harg10 x0 x1 x2 x3 x4 x5 x6 x7 x8 q hq) _ _ True (fun _ => initL_ok q arg11 harg11 x9 h9) (ldA_ok q arg14) 16 le_rfl t h y (by omega)

/-- and the state it leaves. -/
theorem stA_ok (c : Dev nD) (i : grid0.Coords) (arg2 : Memref sig .tc .vmem S128x512 .fp8e4m3) (harg2 : arg2.IsWhole) (arg3 : Memref sig .tc .vmem S128x512 .fp8e4m3) (harg3 : arg3.IsWhole) (arg4 : Memref sig .tc .vmem S128x1024 .fp8e4m3) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128x64 .f32) (harg11 : arg11.IsWhole) (arg12 : Memref sig .tc .vmem S128x1024 .bf16) (harg12 : arg12.IsWhole) (arg13 : Memref sig .tc .vmem S8x128x64 .f32) (harg13 : arg13.IsWhole) (arg14 : Memref sig .tc .vmem S8x64x128 .f32) (harg14 : arg14.IsWhole) (hc0 : cond0_0 i) (hc1 : ¬cond0_1 i)
    (x0 : Vec Ideal S128x512 .fp8e4m3) (x1 : Vec Ideal S128x512 .fp8e4m3) (x2 : Vec Ideal S128x1024 .fp8e4m3) (x3 : Vec Ideal S128x512 .bf16) (x4 : Vec Ideal S128x512 .bf16) (x5 : Vec Ideal S128x512 .f32) (x6 : Vec Ideal S8x128 .f32) (x7 : Vec Ideal S8x128 .f32) (x8 : Vec Ideal S8x128 .f32) (x9 : Vec Ideal S8x128x64 .f32) (q : Seqs)
    (hq : Holds q x0 x1 x2 x3 x4 x5 x6 x7 x8) (h9 : StTOK q 0 x9) :
    StOK q 128 (sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9) := by
  intro h i y
  unfold sout0_A_0
  rw [View.read_writes_junk_eq_canon, stA]
  exact (stL_at q _ (zR_good arg2 harg2 arg3 harg3 arg4 harg4 arg5 harg5 arg6 harg6 arg7 harg7 arg8 harg8 arg9 harg9 arg10 harg10 x0 x1 x2 x3 x4 x5 x6 x7 x8 q hq) _ _ True (fun _ => initL_ok q arg11 harg11 x9 h9) (ldA_ok q arg14) 16 le_rfl h (Or.inl trivial)).tokens (cnt16 h) i y

/-- The outputs of a point of kind B, -/
theorem outB_ok (c : Dev nD) (i : grid0.Coords) (arg2 : Memref sig .tc .vmem S128x512 .fp8e4m3) (harg2 : arg2.IsWhole) (arg3 : Memref sig .tc .vmem S128x512 .fp8e4m3) (harg3 : arg3.IsWhole) (arg4 : Memref sig .tc .vmem S128x1024 .fp8e4m3) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128x64 .f32) (harg11 : arg11.IsWhole) (arg12 : Memref sig .tc .vmem S128x1024 .bf16) (harg12 : arg12.IsWhole) (arg13 : Memref sig .tc .vmem S8x128x64 .f32) (harg13 : arg13.IsWhole) (arg14 : Memref sig .tc .vmem S8x64x128 .f32) (harg14 : arg14.IsWhole) (hc0 : ¬cond0_0 i) (hc1 : ¬cond0_1 i)
    (x0 : Vec Ideal S128x512 .fp8e4m3) (x1 : Vec Ideal S128x512 .fp8e4m3) (x2 : Vec Ideal S128x1024 .fp8e4m3) (x3 : Vec Ideal S128x512 .bf16) (x4 : Vec Ideal S128x512 .bf16) (x5 : Vec Ideal S128x512 .f32) (x6 : Vec Ideal S8x128 .f32) (x7 : Vec Ideal S8x128 .f32) (x8 : Vec Ideal S8x128 .f32) (x9 : Vec Ideal S8x128x64 .f32) (xs0 : Vec Ideal S8x64x128 .f32) (q : Seqs)
    (hq : Holds q x0 x1 x2 x3 x4 x5 x6 x7 x8) (hs : StOK q 0 xs0) :
    OutOK q (out0_B_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0) := by
  intro t h y
  unfold out0_B_10
  rw [View.read_writes_junk_eq_canon, outB]
  exact outL_at q _ (zR_good arg2 harg2 arg3 harg3 arg4 harg4 arg5 harg5 arg6 harg6 arg7 harg7 arg8 harg8 arg9 harg9 arg10 harg10 x0 x1 x2 x3 x4 x5 x6 x7 x8 q hq) _ _ False (fun f => f.elim) (ldB_ok q arg14 harg14 xs0 hs) 16 le_rfl t h y (by omega)

/-- and the state it leaves. -/
theorem stB_ok (c : Dev nD) (i : grid0.Coords) (arg2 : Memref sig .tc .vmem S128x512 .fp8e4m3) (harg2 : arg2.IsWhole) (arg3 : Memref sig .tc .vmem S128x512 .fp8e4m3) (harg3 : arg3.IsWhole) (arg4 : Memref sig .tc .vmem S128x1024 .fp8e4m3) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128x64 .f32) (harg11 : arg11.IsWhole) (arg12 : Memref sig .tc .vmem S128x1024 .bf16) (harg12 : arg12.IsWhole) (arg13 : Memref sig .tc .vmem S8x128x64 .f32) (harg13 : arg13.IsWhole) (arg14 : Memref sig .tc .vmem S8x64x128 .f32) (harg14 : arg14.IsWhole) (hc0 : ¬cond0_0 i) (hc1 : ¬cond0_1 i)
    (x0 : Vec Ideal S128x512 .fp8e4m3) (x1 : Vec Ideal S128x512 .fp8e4m3) (x2 : Vec Ideal S128x1024 .fp8e4m3) (x3 : Vec Ideal S128x512 .bf16) (x4 : Vec Ideal S128x512 .bf16) (x5 : Vec Ideal S128x512 .f32) (x6 : Vec Ideal S8x128 .f32) (x7 : Vec Ideal S8x128 .f32) (x8 : Vec Ideal S8x128 .f32) (x9 : Vec Ideal S8x128x64 .f32) (xs0 : Vec Ideal S8x64x128 .f32) (q : Seqs)
    (hq : Holds q x0 x1 x2 x3 x4 x5 x6 x7 x8) (hs : StOK q 0 xs0) :
    StOK q 128 (sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0) := by
  intro h i y
  unfold sout0_B_0
  rw [View.read_writes_junk_eq_canon, stB]
  exact (stL_at q _ (zR_good arg2 harg2 arg3 harg3 arg4 harg4 arg5 harg5 arg6 harg6 arg7 harg7 arg8 harg8 arg9 harg9 arg10 harg10 x0 x1 x2 x3 x4 x5 x6 x7 x8 q hq) _ _ False (fun f => f.elim) (ldB_ok q arg14 harg14 xs0 hs) 16 le_rfl h (Or.inr (by omega))).tokens (cnt16 h) i y

/-- The outputs of a point of kind C, -/
theorem outC_ok (c : Dev nD) (i : grid0.Coords) (arg2 : Memref sig .tc .vmem S128x512 .fp8e4m3) (harg2 : arg2.IsWhole) (arg3 : Memref sig .tc .vmem S128x512 .fp8e4m3) (harg3 : arg3.IsWhole) (arg4 : Memref sig .tc .vmem S128x1024 .fp8e4m3) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128x64 .f32) (harg11 : arg11.IsWhole) (arg12 : Memref sig .tc .vmem S128x1024 .bf16) (harg12 : arg12.IsWhole) (arg13 : Memref sig .tc .vmem S8x128x64 .f32) (harg13 : arg13.IsWhole) (arg14 : Memref sig .tc .vmem S8x64x128 .f32) (harg14 : arg14.IsWhole) (hc0 : ¬cond0_0 i) (hc1 : cond0_1 i)
    (x0 : Vec Ideal S128x512 .fp8e4m3) (x1 : Vec Ideal S128x512 .fp8e4m3) (x2 : Vec Ideal S128x1024 .fp8e4m3) (x3 : Vec Ideal S128x512 .bf16) (x4 : Vec Ideal S128x512 .bf16) (x5 : Vec Ideal S128x512 .f32) (x6 : Vec Ideal S8x128 .f32) (x7 : Vec Ideal S8x128 .f32) (x8 : Vec Ideal S8x128 .f32) (x9 : Vec Ideal S8x128x64 .f32) (xs0 : Vec Ideal S8x64x128 .f32) (q : Seqs)
    (hq : Holds q x0 x1 x2 x3 x4 x5 x6 x7 x8) (hs : StOK q 0 xs0) :
    OutOK q (out0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0) := by
  intro t h y
  unfold out0_C_10
  rw [View.read_writes_junk_eq_canon, outC]
  exact outL_at q _ (zR_good arg2 harg2 arg3 harg3 arg4 harg4 arg5 harg5 arg6 harg6 arg7 harg7 arg8 harg8 arg9 harg9 arg10 harg10 x0 x1 x2 x3 x4 x5 x6 x7 x8 q hq) _ _ False (fun f => f.elim) (ldB_ok q arg14 harg14 xs0 hs) 16 le_rfl t h y (by omega)

/-- and the state it leaves. -/
theorem stC_ok (c : Dev nD) (i : grid0.Coords) (arg2 : Memref sig .tc .vmem S128x512 .fp8e4m3) (harg2 : arg2.IsWhole) (arg3 : Memref sig .tc .vmem S128x512 .fp8e4m3) (harg3 : arg3.IsWhole) (arg4 : Memref sig .tc .vmem S128x1024 .fp8e4m3) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128x64 .f32) (harg11 : arg11.IsWhole) (arg12 : Memref sig .tc .vmem S128x1024 .bf16) (harg12 : arg12.IsWhole) (arg13 : Memref sig .tc .vmem S8x128x64 .f32) (harg13 : arg13.IsWhole) (arg14 : Memref sig .tc .vmem S8x64x128 .f32) (harg14 : arg14.IsWhole) (hc0 : ¬cond0_0 i) (hc1 : cond0_1 i)
    (x0 : Vec Ideal S128x512 .fp8e4m3) (x1 : Vec Ideal S128x512 .fp8e4m3) (x2 : Vec Ideal S128x1024 .fp8e4m3) (x3 : Vec Ideal S128x512 .bf16) (x4 : Vec Ideal S128x512 .bf16) (x5 : Vec Ideal S128x512 .f32) (x6 : Vec Ideal S8x128 .f32) (x7 : Vec Ideal S8x128 .f32) (x8 : Vec Ideal S8x128 .f32) (x9 : Vec Ideal S8x128x64 .f32) (xs0 : Vec Ideal S8x64x128 .f32) (q : Seqs)
    (hq : Holds q x0 x1 x2 x3 x4 x5 x6 x7 x8) (hs : StOK q 0 xs0) :
    StOK q 128 (sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0) := by
  intro h i y
  unfold sout0_C_0
  rw [View.read_writes_junk_eq_canon, stC]
  exact (stL_at q _ (zR_good arg2 harg2 arg3 harg3 arg4 harg4 arg5 harg5 arg6 harg6 arg7 harg7 arg8 harg8 arg9 harg9 arg10 harg10 x0 x1 x2 x3 x4 x5 x6 x7 x8 q hq) _ _ False (fun f => f.elim) (ldB_ok q arg14 harg14 xs0 hs) 16 le_rfl h (Or.inr (by omega))).tokens (cnt16 h) i y

/-- The final states. -/
theorem finC_ok (c : Dev nD) (i : grid0.Coords) (arg2 : Memref sig .tc .vmem S128x512 .fp8e4m3) (harg2 : arg2.IsWhole) (arg3 : Memref sig .tc .vmem S128x512 .fp8e4m3) (harg3 : arg3.IsWhole) (arg4 : Memref sig .tc .vmem S128x1024 .fp8e4m3) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128x64 .f32) (harg11 : arg11.IsWhole) (arg12 : Memref sig .tc .vmem S128x1024 .bf16) (harg12 : arg12.IsWhole) (arg13 : Memref sig .tc .vmem S8x128x64 .f32) (harg13 : arg13.IsWhole) (arg14 : Memref sig .tc .vmem S8x64x128 .f32) (harg14 : arg14.IsWhole) (hc0 : ¬cond0_0 i) (hc1 : cond0_1 i)
    (x0 : Vec Ideal S128x512 .fp8e4m3) (x1 : Vec Ideal S128x512 .fp8e4m3) (x2 : Vec Ideal S128x1024 .fp8e4m3) (x3 : Vec Ideal S128x512 .bf16) (x4 : Vec Ideal S128x512 .bf16) (x5 : Vec Ideal S128x512 .f32) (x6 : Vec Ideal S8x128 .f32) (x7 : Vec Ideal S8x128 .f32) (x8 : Vec Ideal S8x128 .f32) (x9 : Vec Ideal S8x128x64 .f32) (xs0 : Vec Ideal S8x64x128 .f32) (q : Seqs)
    (hq : Holds q x0 x1 x2 x3 x4 x5 x6 x7 x8) (hs : StOK q 0 xs0) :
    StTOK q 128 (out0_C_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0) := by
  intro h y i
  unfold out0_C_11
  rw [View.read_writes_junk_eq_canon, finC]
  refine finL_at q 128 _ (fun n i y => readCov_at q arg14 n 128 _ (?_) i y) 8 le_rfl h h.isLt y i
  exact (stL_at q _ (zR_good arg2 harg2 arg3 harg3 arg4 harg4 arg5 harg5 arg6 harg6 arg7 harg7 arg8 harg8 arg9 harg9 arg10 harg10 x0 x1 x2 x3 x4 x5 x6 x7 x8 q hq) _ _ False (fun f => f.elim) (ldB_ok q arg14 harg14 xs0 hs) 16 le_rfl ⟨hd n, hd_lt n⟩ (Or.inr (by have := hd_lt n; dsimp only; omega))).tokens (cnt16 _)

end Cert.Head
-- ==== Proof.Args.lean ====
/- The arguments as sequences of reals, and the sequences of one head group from a block of tokens on. -/
module

public import proofs.«01_k».proof.Proof.Step

@[expose] public section

set_option maxRecDepth 16384

noncomputable section

namespace Cert.Head

open Idealize.ShloMosaic

/-- The arguments' shapes. -/
abbrev AK : Shape := ⟨4, ![1, 16384, 40, 64]⟩
abbrev AV : Shape := ⟨4, ![1, 16384, 40, 128]⟩
abbrev AC : Shape := ⟨3, ![1, 16384, 40]⟩
abbrev AS : Shape := ⟨4, ![1, 40, 128, 64]⟩

/-- The ten arguments hold the sequences of the forty heads: codes times scales, the two factors, the log decays, and the
    initial states, which they hold transposed. -/
structure ArgsAre (q : Seqs) (A0 : Vec Ideal AK .f32) (A1 : Vec Ideal AC .f32) (A2 : Vec Ideal AK .f32) (A3 : Vec Ideal AC .f32)
    (A4 : Vec Ideal AV .f32) (A5 : Vec Ideal AC .f32) (A6 A7 : Vec Ideal AK .bf16) (A8 : Vec Ideal AK .f32) (A9 : Vec Ideal AS .f32) : Prop where
  r : ∀ (t : Fin 16384) (h : Fin 40) (x : Fin 64), A0 (ix4 0 t h x) * A1 (ix3 0 t h) = ((q.r h.val t.val x : ℝ) : EReal)
  k : ∀ (t : Fin 16384) (h : Fin 40) (x : Fin 64), A2 (ix4 0 t h x) * A3 (ix3 0 t h) = ((q.k h.val t.val x : ℝ) : EReal)
  v : ∀ (t : Fin 16384) (h : Fin 40) (x : Fin 128), A4 (ix4 0 t h x) * A5 (ix3 0 t h) = ((q.v h.val t.val x : ℝ) : EReal)
  a : ∀ (t : Fin 16384) (h : Fin 40) (x : Fin 64), A6 (ix4 0 t h x) = ((q.a h.val t.val x : ℝ) : EReal)
  b : ∀ (t : Fin 16384) (h : Fin 40) (x : Fin 64), A7 (ix4 0 t h x) = ((q.b h.val t.val x : ℝ) : EReal)
  w : ∀ (t : Fin 16384) (h : Fin 40) (x : Fin 64), A8 (ix4 0 t h x) = ((q.w h.val t.val x : ℝ) : EReal)
  S : ∀ (h : Fin 40) (y : Fin 128) (x : Fin 64), A9 (ix4 0 h y x) = ((q.S h.val x y : ℝ) : EReal)

/-- The eight heads of group `g` from token `128 b` on. -/
def Seqs.from (q : Seqs) (g b : ℕ) : Seqs where
  r := fun h t => q.r (g * 8 + h) (b * 128 + t)
  k := fun h t => q.k (g * 8 + h) (b * 128 + t)
  v := fun h t => q.v (g * 8 + h) (b * 128 + t)
  a := fun h t => q.a (g * 8 + h) (b * 128 + t)
  b := fun h t => q.b (g * 8 + h) (b * 128 + t)
  w := fun h t => q.w (g * 8 + h) (b * 128 + t)
  S := fun h => q.st (g * 8 + h) (b * 128)

theorem Seqs.from_st (q : Seqs) (g b h m : ℕ) : (q.from g b).st h m = q.st (g * 8 + h) (b * 128 + m) :=
  (Cert.Rec.st_add _ _ _ _ _ _ _ _).symm

theorem Seqs.from_out (q : Seqs) (g b h m : ℕ) (y : Fin 128) : (q.from g b).out h m y = q.out (g * 8 + h) (b * 128 + m) y :=
  (Cert.Rec.out_add _ _ _ _ _ _ _ _ _ _).symm

end Cert.Head
-- ==== Proof.Grid.lean ====
/- The grid: the windows' blocks hold the sequences of their heads and tokens, so that after every point the scratch is
   the recurrence's state and the blocks written back are its outputs and final states. -/
module

public import proofs.«01_k».proof.Proof.Point
public import proofs.«01_k».proof.Proof.Args
public import proofs.«01_k».proof.Proof.Gen.KernelIdeal.Value
import Idealize.ShloMosaic.Lib.Pipeline.ValueKit
import Idealize.ShloMosaic.Lib.Pointwise

@[expose] public section

set_option maxRecDepth 16384

noncomputable section

namespace Cert.Head

open Cert.KernelIdeal Cert.KernelIdeal.Gen Cert.KernelIdeal.Value Idealize.ShloMosaic Idealize.ShloMosaic.TcCoe Idealize.SL.Sem

variable (m : (ℓ : Loc nD τ sig) → Buf (Elt Ideal) ℓ)

theorem lt_N (t : Fin cfg0.N) : t.val < 640 := lt_of_lt_of_eq t.isLt N_0

/-! ### The operands, of the arguments -/

theorem V1 (c : Dev nD) (i : Fin 16384) (x : Fin 2560) :
    V m c main_v1 (ix2 i x) = m ((c : Thread nD τ).loc main_arg0) (ix4 0 i ⟨x.val / 64, by omega⟩ ⟨x.val % 64, by omega⟩) := by
  unfold V
  entry_read
  pointwise []

theorem V3 (c : Dev nD) (i : Fin 16384) (x : Fin 2560) :
    V m c main_v3 (ix2 i x) = m ((c : Thread nD τ).loc main_arg2) (ix4 0 i ⟨x.val / 64, by omega⟩ ⟨x.val % 64, by omega⟩) := by
  unfold V
  entry_read
  pointwise []

theorem V5 (c : Dev nD) (i : Fin 16384) (x : Fin 5120) :
    V m c main_v5 (ix2 i x) = m ((c : Thread nD τ).loc main_arg4) (ix4 0 i ⟨x.val / 128, by omega⟩ ⟨x.val % 128, by omega⟩) := by
  unfold V
  entry_read
  pointwise []

theorem V6 (c : Dev nD) (i : Fin 16384) (x : Fin 2560) :
    V m c main_v6 (ix2 i x) = m ((c : Thread nD τ).loc main_arg6) (ix4 0 i ⟨x.val / 64, by omega⟩ ⟨x.val % 64, by omega⟩) := by
  unfold V
  entry_read
  pointwise []

theorem V7 (c : Dev nD) (i : Fin 16384) (x : Fin 2560) :
    V m c main_v7 (ix2 i x) = m ((c : Thread nD τ).loc main_arg7) (ix4 0 i ⟨x.val / 64, by omega⟩ ⟨x.val % 64, by omega⟩) := by
  unfold V
  entry_read
  pointwise []

theorem V8 (c : Dev nD) (i : Fin 16384) (x : Fin 2560) :
    V m c main_v8 (ix2 i x) = m ((c : Thread nD τ).loc main_arg8) (ix4 0 i ⟨x.val / 64, by omega⟩ ⟨x.val % 64, by omega⟩) := by
  unfold V
  entry_read
  pointwise []

theorem V10 (c : Dev nD) (h : Fin 40) (t : Fin 16384) :
    V m c main_v10 (ix2 h t) = m ((c : Thread nD τ).loc main_arg1) (ix3 0 t h) := by
  unfold V
  entry_read
  pointwise []

theorem V12 (c : Dev nD) (h : Fin 40) (t : Fin 16384) :
    V m c main_v12 (ix2 h t) = m ((c : Thread nD τ).loc main_arg3) (ix3 0 t h) := by
  unfold V
  entry_read
  pointwise []

theorem V14 (c : Dev nD) (h : Fin 40) (t : Fin 16384) :
    V m c main_v14 (ix2 h t) = m ((c : Thread nD τ).loc main_arg5) (ix3 0 t h) := by
  unfold V
  entry_read
  pointwise []

theorem V15 (c : Dev nD) (h : Fin 40) (y : Fin 128) (x : Fin 64) :
    V m c main_v15 (ix3 h y x) = m ((c : Thread nD τ).loc main_arg9) (ix4 0 h y x) := by
  unfold V
  entry_read
  pointwise []

/-! ### The blocks -/

theorem idx0 : ∀ t : Fin cfg0.N, win0_0.index t = ![t.val % 128, t.val / 128] :=
  (by decide +kernel : ∀ t : Fin grid0.N, _)

theorem blk0 (c : Dev nD) (t : Fin cfg0.N) (i : Fin 128) (h : Fin 8) (x : Fin 64) :
    iblk m c 0 t (ix2 i (⟨h.val * 64 + x.val, by omega⟩ : Fin 512)) = m ((c : Thread nD τ).loc main_arg0)
      (ix4 0 ⟨t.val % 128 * 128 + i.val, by omega⟩ ⟨t.val / 128 * 8 + h.val, by have := lt_N t; omega⟩ x) := by
  have hN := lt_N t
  have e : iblk m c 0 t (ix2 i (⟨h.val * 64 + x.val, by omega⟩ : Fin 512)) = V m c main_v1
      (ix2 ⟨t.val % 128 * 128 + i.val, by omega⟩ ⟨t.val / 128 * 512 + (h.val * 64 + x.val), by omega⟩) := by
    blk_ext [iblk, idx0 t]
  rw [e, V1]
  exact congrArg _ (congrArg₂ (ix4 0 _) (Fin.ext (by dsimp only; omega)) (Fin.ext (by dsimp only; omega)))

theorem idx1 : ∀ t : Fin cfg0.N, win0_1.index t = ![t.val % 128, t.val / 128] :=
  (by decide +kernel : ∀ t : Fin grid0.N, _)

theorem blk1 (c : Dev nD) (t : Fin cfg0.N) (i : Fin 128) (h : Fin 8) (x : Fin 64) :
    iblk m c 1 t (ix2 i (⟨h.val * 64 + x.val, by omega⟩ : Fin 512)) = m ((c : Thread nD τ).loc main_arg2)
      (ix4 0 ⟨t.val % 128 * 128 + i.val, by omega⟩ ⟨t.val / 128 * 8 + h.val, by have := lt_N t; omega⟩ x) := by
  have hN := lt_N t
  have e : iblk m c 1 t (ix2 i (⟨h.val * 64 + x.val, by omega⟩ : Fin 512)) = V m c main_v3
      (ix2 ⟨t.val % 128 * 128 + i.val, by omega⟩ ⟨t.val / 128 * 512 + (h.val * 64 + x.val), by omega⟩) := by
    blk_ext [iblk, idx1 t]
  rw [e, V3]
  exact congrArg _ (congrArg₂ (ix4 0 _) (Fin.ext (by dsimp only; omega)) (Fin.ext (by dsimp only; omega)))

theorem idx2 : ∀ t : Fin cfg0.N, win0_2.index t = ![t.val % 128, t.val / 128] :=
  (by decide +kernel : ∀ t : Fin grid0.N, _)

theorem blk2 (c : Dev nD) (t : Fin cfg0.N) (i : Fin 128) (h : Fin 8) (x : Fin 128) :
    iblk m c 2 t (ix2 i (⟨h.val * 128 + x.val, by omega⟩ : Fin 1024)) = m ((c : Thread nD τ).loc main_arg4)
      (ix4 0 ⟨t.val % 128 * 128 + i.val, by omega⟩ ⟨t.val / 128 * 8 + h.val, by have := lt_N t; omega⟩ x) := by
  have hN := lt_N t
  have e : iblk m c 2 t (ix2 i (⟨h.val * 128 + x.val, by omega⟩ : Fin 1024)) = V m c main_v5
      (ix2 ⟨t.val % 128 * 128 + i.val, by omega⟩ ⟨t.val / 128 * 1024 + (h.val * 128 + x.val), by omega⟩) := by
    blk_ext [iblk, idx2 t]
  rw [e, V5]
  exact congrArg _ (congrArg₂ (ix4 0 _) (Fin.ext (by dsimp only; omega)) (Fin.ext (by dsimp only; omega)))

theorem idx3 : ∀ t : Fin cfg0.N, win0_3.index t = ![t.val % 128, t.val / 128] :=
  (by decide +kernel : ∀ t : Fin grid0.N, _)

theorem blk3 (c : Dev nD) (t : Fin cfg0.N) (i : Fin 128) (h : Fin 8) (x : Fin 64) :
    iblk m c 3 t (ix2 i (⟨h.val * 64 + x.val, by omega⟩ : Fin 512)) = m ((c : Thread nD τ).loc main_arg6)
      (ix4 0 ⟨t.val % 128 * 128 + i.val, by omega⟩ ⟨t.val / 128 * 8 + h.val, by have := lt_N t; omega⟩ x) := by
  have hN := lt_N t
  have e : iblk m c 3 t (ix2 i (⟨h.val * 64 + x.val, by omega⟩ : Fin 512)) = V m c main_v6
      (ix2 ⟨t.val % 128 * 128 + i.val, by omega⟩ ⟨t.val / 128 * 512 + (h.val * 64 + x.val), by omega⟩) := by
    blk_ext [iblk, idx3 t]
  rw [e, V6]
  exact congrArg _ (congrArg₂ (ix4 0 _) (Fin.ext (by dsimp only; omega)) (Fin.ext (by dsimp only; omega)))

theorem idx4 : ∀ t : Fin cfg0.N, win0_4.index t = ![t.val % 128, t.val / 128] :=
  (by decide +kernel : ∀ t : Fin grid0.N, _)

theorem blk4 (c : Dev nD) (t : Fin cfg0.N) (i : Fin 128) (h : Fin 8) (x : Fin 64) :
    iblk m c 4 t (ix2 i (⟨h.val * 64 + x.val, by omega⟩ : Fin 512)) = m ((c : Thread nD τ).loc main_arg7)
      (ix4 0 ⟨t.val % 128 * 128 + i.val, by omega⟩ ⟨t.val / 128 * 8 + h.val, by have := lt_N t; omega⟩ x) := by
  have hN := lt_N t
  have e : iblk m c 4 t (ix2 i (⟨h.val * 64 + x.val, by omega⟩ : Fin 512)) = V m c main_v7
      (ix2 ⟨t.val % 128 * 128 + i.val, by omega⟩ ⟨t.val / 128 * 512 + (h.val * 64 + x.val), by omega⟩) := by
    blk_ext [iblk, idx4 t]
  rw [e, V7]
  exact congrArg _ (congrArg₂ (ix4 0 _) (Fin.ext (by dsimp only; omega)) (Fin.ext (by dsimp only; omega)))

theorem idx5 : ∀ t : Fin cfg0.N, win0_5.index t = ![t.val % 128, t.val / 128] :=
  (by decide +kernel : ∀ t : Fin grid0.N, _)

theorem blk5 (c : Dev nD) (t : Fin cfg0.N) (i : Fin 128) (h : Fin 8) (x : Fin 64) :
    iblk m c 5 t (ix2 i (⟨h.val * 64 + x.val, by omega⟩ : Fin 512)) = m ((c : Thread nD τ).loc main_arg8)
      (ix4 0 ⟨t.val % 128 * 128 + i.val, by omega⟩ ⟨t.val / 128 * 8 + h.val, by have := lt_N t; omega⟩ x) := by
  have hN := lt_N t
  have e : iblk m c 5 t (ix2 i (⟨h.val * 64 + x.val, by omega⟩ : Fin 512)) = V m c main_v8
      (ix2 ⟨t.val % 128 * 128 + i.val, by omega⟩ ⟨t.val / 128 * 512 + (h.val * 64 + x.val), by omega⟩) := by
    blk_ext [iblk, idx5 t]
  rw [e, V8]
  exact congrArg _ (congrArg₂ (ix4 0 _) (Fin.ext (by dsimp only; omega)) (Fin.ext (by dsimp only; omega)))

theorem idx6 : ∀ t : Fin cfg0.N, win0_6.index t = ![t.val / 128, t.val % 128] :=
  (by decide +kernel : ∀ t : Fin grid0.N, _)

theorem blk6 (c : Dev nD) (t : Fin cfg0.N) (i : Fin 128) (h : Fin 8) :
    iblk m c 6 t (ix2 h i) = m ((c : Thread nD τ).loc main_arg1)
      (ix3 0 ⟨t.val % 128 * 128 + i.val, by omega⟩ ⟨t.val / 128 * 8 + h.val, by have := lt_N t; omega⟩) := by
  have hN := lt_N t
  have e : iblk m c 6 t (ix2 h i) = V m c main_v10
      (ix2 ⟨t.val / 128 * 8 + h.val, by omega⟩ ⟨t.val % 128 * 128 + i.val, by omega⟩) := by
    blk_ext [iblk, idx6 t]
  rw [e, V10]

theorem idx7 : ∀ t : Fin cfg0.N, win0_7.index t = ![t.val / 128, t.val % 128] :=
  (by decide +kernel : ∀ t : Fin grid0.N, _)

theorem blk7 (c : Dev nD) (t : Fin cfg0.N) (i : Fin 128) (h : Fin 8) :
    iblk m c 7 t (ix2 h i) = m ((c : Thread nD τ).loc main_arg3)
      (ix3 0 ⟨t.val % 128 * 128 + i.val, by omega⟩ ⟨t.val / 128 * 8 + h.val, by have := lt_N t; omega⟩) := by
  have hN := lt_N t
  have e : iblk m c 7 t (ix2 h i) = V m c main_v12
      (ix2 ⟨t.val / 128 * 8 + h.val, by omega⟩ ⟨t.val % 128 * 128 + i.val, by omega⟩) := by
    blk_ext [iblk, idx7 t]
  rw [e, V12]

theorem idx8 : ∀ t : Fin cfg0.N, win0_8.index t = ![t.val / 128, t.val % 128] :=
  (by decide +kernel : ∀ t : Fin grid0.N, _)

theorem blk8 (c : Dev nD) (t : Fin cfg0.N) (i : Fin 128) (h : Fin 8) :
    iblk m c 8 t (ix2 h i) = m ((c : Thread nD τ).loc main_arg5)
      (ix3 0 ⟨t.val % 128 * 128 + i.val, by omega⟩ ⟨t.val / 128 * 8 + h.val, by have := lt_N t; omega⟩) := by
  have hN := lt_N t
  have e : iblk m c 8 t (ix2 h i) = V m c main_v14
      (ix2 ⟨t.val / 128 * 8 + h.val, by omega⟩ ⟨t.val % 128 * 128 + i.val, by omega⟩) := by
    blk_ext [iblk, idx8 t]
  rw [e, V14]

theorem idx9 : ∀ t : Fin cfg0.N, win0_9.index t = ![t.val / 128, 0, 0] :=
  (by decide +kernel : ∀ t : Fin grid0.N, _)

theorem blk9 (c : Dev nD) (t : Fin cfg0.N) (h : Fin 8) (y : Fin 128) (x : Fin 64) :
    iblk m c 9 t (ix3 h y x) = m ((c : Thread nD τ).loc main_arg9)
      (ix4 0 ⟨t.val / 128 * 8 + h.val, by have := lt_N t; omega⟩ y x) := by
  have hN := lt_N t
  have e : iblk m c 9 t (ix3 h y x) = V m c main_v15 (ix3 ⟨t.val / 128 * 8 + h.val, by omega⟩ y x) := by
    blk_ext [iblk, idx9 t]
  rw [e, V15]

/-! ### The fold over the points -/

variable (q : Seqs) (c : Dev nD) (hq : ArgsAre q (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))

include hq

theorem holds (t : Fin cfg0.N) : Holds (q.from (t.val / 128) (t.val % 128)) (iblk m c 0 t) (iblk m c 1 t) (iblk m c 2 t) (iblk m c 3 t) (iblk m c 4 t) (iblk m c 5 t) (iblk m c 6 t) (iblk m c 7 t) (iblk m c 8 t) where
  r i h x := by rw [blk0, blk6]; exact hq.r _ _ x
  k i h x := by rw [blk1, blk7]; exact hq.k _ _ x
  v i h x := by rw [blk2, blk8]; exact hq.v _ _ x
  a i h x := by rw [blk3]; exact hq.a _ _ x
  b i h x := by rw [blk4]; exact hq.b _ _ x
  w i h x := by rw [blk5]; exact hq.w _ _ x

theorem init (t : Fin cfg0.N) (h0 : t.val % 128 = 0) : StTOK (q.from (t.val / 128) (t.val % 128)) 0 (iblk m c 9 t) := by
  intro h y i
  rw [blk9, hq.S, Seqs.from_st, h0]
  rfl

/-- What a point is to leave: its outputs, the state after it, and at the last one of the head group the final states. -/
def Left (n : ℕ) (s : Vec Ideal S128x1024 .bf16 × Vec Ideal S8x128x64 .f32 × Vec Ideal S8x64x128 .f32) : Prop :=
  OutOK (q.from (n / 128) (n % 128)) s.1 ∧ StOK (q.from (n / 128) (n % 128)) 128 s.2.2
    ∧ (n % 128 = 127 → StTOK (q.from (n / 128) (n % 128)) 128 s.2.1)

omit hq in
theorem Left.of_eq (n : ℕ) (s : Vec Ideal S128x1024 .bf16 × Vec Ideal S8x128x64 .f32 × Vec Ideal S8x64x128 .f32) (x : Vec Ideal S128x1024 .bf16)
    (y : Vec Ideal S8x128x64 .f32) (z : Vec Ideal S8x64x128 .f32) (e : s = (x, y, z)) (hx : OutOK (q.from (n / 128) (n % 128)) x)
    (hz : StOK (q.from (n / 128) (n % 128)) 128 z) (hy : n % 128 = 127 → StTOK (q.from (n / 128) (n % 128)) 128 y) : Left q n s := by
  subst e
  exact ⟨hx, hz, hy⟩

theorem step (t : Fin cfg0.N) (acc : Vec Ideal S128x1024 .bf16 × Vec Ideal S8x128x64 .f32 × Vec Ideal S8x64x128 .f32)
    (hacc : ¬ t.val % 128 = 0 → StOK (q.from (t.val / 128) (t.val % 128)) 0 acc.2.2) : Left q t.val (stAt0 m c t.val t.isLt acc) := by
  have hH := holds m q c hq t
  by_cases h0 : t.val % 128 = 0
  · have h1 : ¬ t.val % 128 = 127 := by omega
    have e := stAt0_A m c t acc h0 h1
    have hi := init m q c hq t h0
    have ha := outA_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) _ hH hi
    have hb := stA_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) _ hH hi
    exact Left.of_eq q _ _ _ _ _ e ha hb (fun h => absurd h h1)
  · have hs := hacc h0
    by_cases h1 : t.val % 128 = 127
    · have e := stAt0_C m c t acc h0 h1
      have ha := outC_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) acc.2.2 _ hH hs
      have hb := stC_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) acc.2.2 _ hH hs
      have hc := finC_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) acc.2.2 _ hH hs
      exact Left.of_eq q _ _ _ _ _ e ha hb (fun _ => hc)
    · have e := stAt0_B m c t acc h0 h1
      have ha := outB_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) acc.2.2 _ hH hs
      have hb := stB_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) acc.2.2 _ hH hs
      exact Left.of_eq q _ _ _ _ _ e ha hb (fun h => absurd h h1)

theorem left (n : ℕ) (hn : n < cfg0.N) : Left q n (outsAt0 m c n hn) := by
  induction n with
  | zero =>
    rw [outsAt0_zero]
    exact step m q c hq ⟨0, hn⟩ junk0 fun h => absurd (Nat.zero_mod _) h
  | succ n ih =>
    rw [outsAt0_succ]
    refine step m q c hq ⟨n + 1, hn⟩ _ fun h => ?_
    have h' : ¬ (n + 1) % 128 = 0 := h
    intro h i y
    rw [(ih _).2.1 h i y, Seqs.from_st, Seqs.from_st]
    have e1 : n / 128 = (n + 1) / 128 := by omega
    have e2 : n % 128 * 128 + 128 = (n + 1) % 128 * 128 + 0 := by omega
    rw [e1, e2]

/-- The outputs' array ends as the recurrence's outputs, -/
theorem out_eq (t : Fin 16384) (h : Fin 40) (y : Fin 128) :
    G10 m c (ix2 t (⟨h.val * 128 + y.val, by omega⟩ : Fin 5120)) = ((q.out h.val t.val y : ℝ) : EReal) := by
  have hp : pt10Of (ix2 t (⟨h.val * 128 + y.val, by omega⟩ : Fin 5120)) = t.val / 128 + 128 * (h.val / 8) := by
    show 1 * (t.val / 128 - 0) + 128 * ((h.val * 128 + y.val) / 1024 - 0) = _
    omega
  have hlt : t.val / 128 + 128 * (h.val / 8) < cfg0.N := lt_of_lt_of_eq (by omega) N_0.symm
  have hloc : loc10Of (ix2 t (⟨h.val * 128 + y.val, by omega⟩ : Fin 5120))
      = ix2 (⟨t.val % 128, by omega⟩ : Fin 128) (⟨h.val % 8 * 128 + y.val, by omega⟩ : Fin 1024) := by
    funext a
    fin_cases a
    · rfl
    · exact Fin.ext (by show (h.val * 128 + y.val) % 1024 = h.val % 8 * 128 + y.val; omega)
  have hl := (left m q c hq _ hlt).1 ⟨t.val % 128, by omega⟩ ⟨h.val % 8, by omega⟩ y
  unfold G10
  rw [dif_pos (by rw [hp]; exact hlt), hloc, fold0_congr m c _ _ _ (by rw [Nat.zero_add]; exact hlt) hp, ← outsAt0_sweep m c _ hlt, hl, Seqs.from_out]
  have e1 : (t.val / 128 + 128 * (h.val / 8)) / 128 * 8 + h.val % 8 = h.val := by omega
  have e2 : (t.val / 128 + 128 * (h.val / 8)) % 128 * 128 + t.val % 128 = t.val := by omega
  show ((q.out ((t.val / 128 + 128 * (h.val / 8)) / 128 * 8 + h.val % 8) ((t.val / 128 + 128 * (h.val / 8)) % 128 * 128 + t.val % 128) y : ℝ) : EReal) = _
  rw [e1, e2]

/-- and the states' as its final states. -/
theorem st_eq (h : Fin 40) (y : Fin 128) (x : Fin 64) :
    G11 m c (ix3 h y x) = ((q.st h.val 16384 x y : ℝ) : EReal) := by
  have hp : pt11Of (ix3 h y x) = 128 * (h.val / 8) + 127 := by
    show 128 * (1 * (h.val / 8 - 0) + 1 * (y.val / 128 - 0) + 1 * (x.val / 64 - 0)) + 127 = _
    omega
  have hlt : 128 * (h.val / 8) + 127 < cfg0.N := lt_of_lt_of_eq (by omega) N_0.symm
  have hloc : loc11Of (ix3 h y x) = ix3 (⟨h.val % 8, by omega⟩ : Fin 8) y x := by
    funext a
    fin_cases a
    · rfl
    · exact Fin.ext (by show y.val % 128 = y.val; omega)
    · exact Fin.ext (by show x.val % 64 = x.val; omega)
  have hl := (left m q c hq _ hlt).2.2 (by omega) ⟨h.val % 8, by omega⟩ y x
  unfold G11
  rw [dif_pos (by rw [hp]; exact hlt), hloc, fold0_congr m c _ _ _ (by rw [Nat.zero_add]; exact hlt) hp, ← outsAt0_sweep m c _ hlt, hl, Seqs.from_st]
  have e1 : (128 * (h.val / 8) + 127) / 128 * 8 + h.val % 8 = h.val := by omega
  have e2 : (128 * (h.val / 8) + 127) % 128 * 128 + 128 = 16384 := by omega
  show ((q.st ((128 * (h.val / 8) + 127) / 128 * 8 + h.val % 8) ((128 * (h.val / 8) + 127) % 128 * 128 + 128) x y : ℝ) : EReal) = _
  rw [e1, e2]

end Cert.Head
-- ==== Proof.RefTok.lean ====
/- One token of the reference on real inputs: its new state and its output row are the recurrence's. -/
module

public import Idealize.ShloMosaic.Lib.Pointwise
public import proofs.«01_k».proof.Proof.Gen.ReferenceIdeal.Skeleton
public import proofs.«01_k».proof.Proof.Step

@[expose] public section

set_option maxRecDepth 16384

noncomputable section

namespace Cert.Ref

open Cert.ReferenceIdeal Cert.ReferenceIdeal.Gen Idealize.ShloMosaic
open Cert.Head (Seqs coe_sum)

/-- The nine blocks of one token, on the forty heads: codes times scales, the two factors and the log decay. -/
structure Tok (q : Seqs) (t : ℕ) (xr : Vec Ideal S1x1x40x64 .fp8e4m3) (sr : Vec Ideal S1x1x40 .f32) (xk : Vec Ideal S1x1x40x64 .fp8e4m3)
    (sk : Vec Ideal S1x1x40 .f32) (xv : Vec Ideal S1x1x40x128 .fp8e4m3) (sv : Vec Ideal S1x1x40 .f32)
    (xa xb : Vec Ideal S1x1x40x64 .bf16) (xw : Vec Ideal S1x1x40x64 .f32) : Prop where
  r : ∀ (h : Fin 40) (x : Fin 64), xr (ix4 0 0 h x) * sr (ix3 0 0 h) = ((q.r h.val t x : ℝ) : EReal)
  k : ∀ (h : Fin 40) (x : Fin 64), xk (ix4 0 0 h x) * sk (ix3 0 0 h) = ((q.k h.val t x : ℝ) : EReal)
  v : ∀ (h : Fin 40) (x : Fin 128), xv (ix4 0 0 h x) * sv (ix3 0 0 h) = ((q.v h.val t x : ℝ) : EReal)
  a : ∀ (h : Fin 40) (x : Fin 64), xa (ix4 0 0 h x) = ((q.a h.val t x : ℝ) : EReal)
  b : ∀ (h : Fin 40) (x : Fin 64), xb (ix4 0 0 h x) = ((q.b h.val t x : ℝ) : EReal)
  w : ∀ (h : Fin 40) (x : Fin 64), xw (ix4 0 0 h x) = ((q.w h.val t x : ℝ) : EReal)

/-- The carried array holds the state after `t` tokens, transposed, head by head. -/
def Carry (q : Seqs) (t : ℕ) (acc : FVec Ideal S40x128x64 .f32) : Prop :=
  ∀ (h : Fin 40) (y : Fin 128) (x : Fin 64), acc (ix3 h y x) = ((q.st h.val t x y : ℝ) : EReal)

variable {q : Seqs} {t : ℕ} {xr : Vec Ideal S1x1x40x64 .fp8e4m3} {sr : Vec Ideal S1x1x40 .f32} {xk : Vec Ideal S1x1x40x64 .fp8e4m3}
    {sk : Vec Ideal S1x1x40 .f32} {xv : Vec Ideal S1x1x40x128 .fp8e4m3} {sv : Vec Ideal S1x1x40 .f32}
    {xa xb : Vec Ideal S1x1x40x64 .bf16} {xw : Vec Ideal S1x1x40x64 .f32} {acc : FVec Ideal S40x128x64 .f32}

/-- A token's new entry is the recurrence's. -/
theorem entry (hT : Tok q t xr sr xk sk xv sv xa xb xw) (hc : Carry q t acc) (h : Fin 40) (y : Fin 128) (x : Fin 64) :
    acc (ix3 h y x) * ((Real.exp (q.w h.val t x) : ℝ) : EReal) + (∑ z : Fin 64, acc (ix3 h y z) * xa (ix4 0 0 h z)) * xb (ix4 0 0 h x)
      + xv (ix4 0 0 h y) * sv (ix3 0 0 h) * (xk (ix4 0 0 h x) * sk (ix3 0 0 h)) = ((q.st h.val (t + 1) x y : ℝ) : EReal) := by
  rw [hT.v, hT.k, hT.b, hc h y x]
  have e : (∑ z : Fin 64, acc (ix3 h y z) * xa (ix4 0 0 h z)) = ((∑ z : Fin 64, q.st h.val t z y * q.a h.val t z : ℝ) : EReal) := by
    rw [coe_sum]
    exact Finset.sum_congr rfl fun z _ => by rw [hc h y z, hT.a, EReal.coe_mul]
  rw [e, ← EReal.coe_mul, ← EReal.coe_mul, ← EReal.coe_mul, ← EReal.coe_add, ← EReal.coe_add]
  rfl

theorem first_st (hT : Tok q t xr sr xk sk xv sv xa xb xw) (hc : Carry q t acc) :
    Carry q (t + 1) (k0_pay8 acc (k0_pay5 xk sk) (k0_pay6 xv sv) (k0_pay7 xa) xb xw) := by
  intro h y x
  refine Eq.trans ?_ (entry hT hc h y x)
  pointwise [k0_pay8, k0_pay5, k0_pay6, k0_pay7]
  rw [hT.w h x]
  rfl

theorem second_st (hT : Tok q t xr sr xk sk xv sv xa xb xw) (hc : Carry q t acc) :
    Carry q (t + 1) (k0_pay2 (k0_pay12 (k0_pay11 xk) sk) (k0_pay13 acc xa xb xw) (k0_pay14 xv sv)) := by
  intro h y x
  refine Eq.trans ?_ (entry hT hc h y x)
  pointwise [k0_pay2, k0_pay12, k0_pay11, k0_pay13, k0_pay14]
  rw [hT.w h x]
  rfl

/-- A token's output from its new state. -/
theorem row (hT : Tok q t xr sr xk sk xv sv xa xb xw) {new : FVec Ideal S40x128x64 .f32} (hn : Carry q (t + 1) new) (h : Fin 40) (y : Fin 128) :
    (∑ z : Fin 64, new (ix3 h y z) * (xr (ix4 0 0 h z) * sr (ix3 0 0 h))) = ((q.out h.val t y : ℝ) : EReal) := by
  have e : q.out h.val t y = ∑ z : Fin 64, q.st h.val (t + 1) z y * q.r h.val t z := rfl
  rw [e, coe_sum]
  exact Finset.sum_congr rfl fun z _ => by rw [hn h y z, hT.r, EReal.coe_mul]

/-- The row of outputs of the forty heads at token `t`. -/
def rowOf (q : Seqs) (t : ℕ) (c : Fin 5120) : EReal := ((q.out (c.val / 128) t ⟨c.val % 128, Nat.mod_lt _ (by decide)⟩ : ℝ) : EReal)

theorem first_out (hT : Tok q t xr sr xk sk xv sv xa xb xw) (hc : Carry q t acc) (c : Fin 5120) :
    k0_pay9 acc (k0_pay4 xr sr) (k0_pay5 xk sk) (k0_pay6 xv sv) (k0_pay7 xa) xb xw (ix2 0 c) = rowOf q t c := by
  refine Eq.trans ?_ (row hT (first_st hT hc) ⟨c.val / 128, by omega⟩ ⟨c.val % 128, by omega⟩)
  pointwise [k0_pay9, k0_pay4]

theorem second_out (hT : Tok q t xr sr xk sk xv sv xa xb xw) (hc : Carry q t acc) (o : FVec Ideal S1x5120 .f32) (c : Fin 5120) :
    k0_pay3 o (k0_pay10 xr sr) (k0_pay12 (k0_pay11 xk) sk) (k0_pay13 acc xa xb xw) (k0_pay14 xv sv) (ix2 1 c) = rowOf q t c := by
  refine Eq.trans ?_ (row hT (second_st hT hc) ⟨c.val / 128, by omega⟩ ⟨c.val % 128, by omega⟩)
  pointwise [k0_pay3, k0_pay10]

theorem upper_row (o : FVec Ideal S1x5120 .f32) (a b : FVec Ideal S40x64 .f32) (d : FVec Ideal S40x128x64 .f32) (e : FVec Ideal S40x128x1 .f32) (c : Fin 5120) :
    k0_pay3 o a b d e (ix2 0 c) = o (ix2 0 c) := by
  pointwise [k0_pay3]

/-- The carried array before the loop is the initial state. -/
theorem start (q : Seqs) (x : Vec Ideal S1x40x128x64 .f32) (hx : ∀ (h : Fin 40) (y : Fin 128) (z : Fin 64), x (ix4 0 h y z) = ((q.S h.val z y : ℝ) : EReal)) :
    Carry q 0 (k0_pay1 x) := by
  intro h y z
  refine Eq.trans ?_ (hx h y z)
  pointwise [k0_pay1]

end Cert.Ref
-- ==== Proof.RefTrip.lean ====
/- One trip of the reference's loop: two tokens. What it yields and what it stores, on real inputs. -/
module

public import proofs.«01_k».proof.Proof.Gen.ReferenceIdeal.Loops
public import proofs.«01_k».proof.Proof.RefTok

@[expose] public section

set_option maxRecDepth 16384

noncomputable section

namespace Cert.Ref

open Cert.ReferenceIdeal Cert.ReferenceIdeal.Gen Idealize.ShloMosaic Idealize.ShloMosaic.TcCoe Idealize.ShloMosaic.Tactic Idealize.SL.Sem
open Cert.Head (Seqs)

variable (𝒱 : Variants) (c : Dev nD) (bd : Option 𝒱.V) (arg0 : Memref sig .tc .vmem S1x16384x40x64 .fp8e4m3) (harg0 : arg0.IsWhole) (arg1 : Memref sig .tc .vmem S1x16384x40 .f32) (harg1 : arg1.IsWhole) (arg2 : Memref sig .tc .vmem S1x16384x40x64 .fp8e4m3) (harg2 : arg2.IsWhole) (arg3 : Memref sig .tc .vmem S1x16384x40 .f32) (harg3 : arg3.IsWhole) (arg4 : Memref sig .tc .vmem S1x16384x40x128 .fp8e4m3) (harg4 : arg4.IsWhole) (arg5 : Memref sig .tc .vmem S1x16384x40 .f32) (harg5 : arg5.IsWhole) (arg6 : Memref sig .tc .vmem S1x16384x40x64 .bf16) (harg6 : arg6.IsWhole) (arg7 : Memref sig .tc .vmem S1x16384x40x64 .bf16) (harg7 : arg7.IsWhole) (arg8 : Memref sig .tc .vmem S1x16384x40x64 .f32) (harg8 : arg8.IsWhole) (arg9 : Memref sig .tc .vmem S1x40x128x64 .f32) (harg9 : arg9.IsWhole) (arg10 : Memref sig .tc .vmem S16384x5120 .bf16) (harg10 : arg10.IsWhole) (arg11 : Memref sig .tc .vmem S40x128x64 .f32) (harg11 : arg11.IsWhole) (X_arg0 : BufTy.Contents (Elt Ideal) arg0.view.ty) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (k : Fin k0_t1_loop.trips)

/-- What a trip yields: the second token's state. -/
theorem tripR_eq (acc : FVec Ideal S40x128x64 .f32) :
    tripR_k0_t1 (F := Ideal) 𝒱 c bd arg0 harg0 arg1 harg1 arg2 harg2 arg3 harg3 arg4 harg4 arg5 harg5 arg6 harg6 arg7 harg7 arg8 harg8 arg9 harg9 arg10 harg10 arg11 harg11 X_arg0 X_arg1 X_arg2 X_arg3 X_arg4 X_arg5 X_arg6 X_arg7 X_arg8 k acc
      = (k0_pay2 (k0_pay12 (k0_pay11 (View.readAt (Elt Ideal) arg2.view (Rect.unit (s := S1x16384x40x64) (k0_off4 k) S1x1x40x64.size (k0_off4_inb k)).toLoadRect X_arg2)) (View.readAt (Elt Ideal) arg3.view (Rect.unit (s := S1x16384x40) (k0_off5 k) S1x1x40.size (k0_off5_inb k)).toLoadRect X_arg3)) (k0_pay13 (k0_pay8 acc (k0_pay5 (View.readAt (Elt Ideal) arg2.view (Rect.unit (s := S1x16384x40x64) (k0_off1 k) S1x1x40x64.size (k0_off1_inb k)).toLoadRect X_arg2) (View.readAt (Elt Ideal) arg3.view (Rect.unit (s := S1x16384x40) (k0_off2 k) S1x1x40.size (k0_off2_inb k)).toLoadRect X_arg3)) (k0_pay6 (View.readAt (Elt Ideal) arg4.view (Rect.unit (s := S1x16384x40x128) (k0_off3 k) S1x1x40x128.size (k0_off3_inb k)).toLoadRect X_arg4) (View.readAt (Elt Ideal) arg5.view (Rect.unit (s := S1x16384x40) (k0_off2 k) S1x1x40.size (k0_off2_inb k)).toLoadRect X_arg5)) (k0_pay7 (View.readAt (Elt Ideal) arg6.view (Rect.unit (s := S1x16384x40x64) (k0_off1 k) S1x1x40x64.size (k0_off1_inb k)).toLoadRect X_arg6)) (View.readAt (Elt Ideal) arg7.view (Rect.unit (s := S1x16384x40x64) (k0_off1 k) S1x1x40x64.size (k0_off1_inb k)).toLoadRect X_arg7) (View.readAt (Elt Ideal) arg8.view (Rect.unit (s := S1x16384x40x64) (k0_off1 k) S1x1x40x64.size (k0_off1_inb k)).toLoadRect X_arg8)) (View.readAt (Elt Ideal) arg6.view (Rect.unit (s := S1x16384x40x64) (k0_off4 k) S1x1x40x64.size (k0_off4_inb k)).toLoadRect X_arg6) (View.readAt (Elt Ideal) arg7.view (Rect.unit (s := S1x16384x40x64) (k0_off4 k) S1x1x40x64.size (k0_off4_inb k)).toLoadRect X_arg7) (View.readAt (Elt Ideal) arg8.view (Rect.unit (s := S1x16384x40x64) (k0_off4 k) S1x1x40x64.size (k0_off4_inb k)).toLoadRect X_arg8)) (k0_pay14 (View.readAt (Elt Ideal) arg4.view (Rect.unit (s := S1x16384x40x128) (k0_off6 k) S1x1x40x128.size (k0_off6_inb k)).toLoadRect X_arg4) (View.readAt (Elt Ideal) arg5.view (Rect.unit (s := S1x16384x40) (k0_off5 k) S1x1x40.size (k0_off5_inb k)).toLoadRect X_arg5))) := by
  unfold tripR_k0_t1 trip_k0_t1
  rfl

/-- What a trip stores: the two tokens' rows. -/
theorem tripL_eq (acc : FVec Ideal S40x128x64 .f32) :
    tripL_k0_t1 (F := Ideal) 𝒱 c bd arg0 harg0 arg1 harg1 arg2 harg2 arg3 harg3 arg4 harg4 arg5 harg5 arg6 harg6 arg7 harg7 arg8 harg8 arg9 harg9 arg10 harg10 arg11 harg11 X_arg0 X_arg1 X_arg2 X_arg3 X_arg4 X_arg5 X_arg6 X_arg7 X_arg8 k acc
      = [⟨Rect.unit (s := S16384x5120) (k0_off7 k) S2x5120.size (k0_off7_inb k), (k0_pay3 (k0_pay9 acc (k0_pay4 (View.readAt (Elt Ideal) arg0.view (Rect.unit (s := S1x16384x40x64) (k0_off1 k) S1x1x40x64.size (k0_off1_inb k)).toLoadRect X_arg0) (View.readAt (Elt Ideal) arg1.view (Rect.unit (s := S1x16384x40) (k0_off2 k) S1x1x40.size (k0_off2_inb k)).toLoadRect X_arg1)) (k0_pay5 (View.readAt (Elt Ideal) arg2.view (Rect.unit (s := S1x16384x40x64) (k0_off1 k) S1x1x40x64.size (k0_off1_inb k)).toLoadRect X_arg2) (View.readAt (Elt Ideal) arg3.view (Rect.unit (s := S1x16384x40) (k0_off2 k) S1x1x40.size (k0_off2_inb k)).toLoadRect X_arg3)) (k0_pay6 (View.readAt (Elt Ideal) arg4.view (Rect.unit (s := S1x16384x40x128) (k0_off3 k) S1x1x40x128.size (k0_off3_inb k)).toLoadRect X_arg4) (View.readAt (Elt Ideal) arg5.view (Rect.unit (s := S1x16384x40) (k0_off2 k) S1x1x40.size (k0_off2_inb k)).toLoadRect X_arg5)) (k0_pay7 (View.readAt (Elt Ideal) arg6.view (Rect.unit (s := S1x16384x40x64) (k0_off1 k) S1x1x40x64.size (k0_off1_inb k)).toLoadRect X_arg6)) (View.readAt (Elt Ideal) arg7.view (Rect.unit (s := S1x16384x40x64) (k0_off1 k) S1x1x40x64.size (k0_off1_inb k)).toLoadRect X_arg7) (View.readAt (Elt Ideal) arg8.view (Rect.unit (s := S1x16384x40x64) (k0_off1 k) S1x1x40x64.size (k0_off1_inb k)).toLoadRect X_arg8)) (k0_pay10 (View.readAt (Elt Ideal) arg0.view (Rect.unit (s := S1x16384x40x64) (k0_off4 k) S1x1x40x64.size (k0_off4_inb k)).toLoadRect X_arg0) (View.readAt (Elt Ideal) arg1.view (Rect.unit (s := S1x16384x40) (k0_off5 k) S1x1x40.size (k0_off5_inb k)).toLoadRect X_arg1)) (k0_pay12 (k0_pay11 (View.readAt (Elt Ideal) arg2.view (Rect.unit (s := S1x16384x40x64) (k0_off4 k) S1x1x40x64.size (k0_off4_inb k)).toLoadRect X_arg2)) (View.readAt (Elt Ideal) arg3.view (Rect.unit (s := S1x16384x40) (k0_off5 k) S1x1x40.size (k0_off5_inb k)).toLoadRect X_arg3)) (k0_pay13 (k0_pay8 acc (k0_pay5 (View.readAt (Elt Ideal) arg2.view (Rect.unit (s := S1x16384x40x64) (k0_off1 k) S1x1x40x64.size (k0_off1_inb k)).toLoadRect X_arg2) (View.readAt (Elt Ideal) arg3.view (Rect.unit (s := S1x16384x40) (k0_off2 k) S1x1x40.size (k0_off2_inb k)).toLoadRect X_arg3)) (k0_pay6 (View.readAt (Elt Ideal) arg4.view (Rect.unit (s := S1x16384x40x128) (k0_off3 k) S1x1x40x128.size (k0_off3_inb k)).toLoadRect X_arg4) (View.readAt (Elt Ideal) arg5.view (Rect.unit (s := S1x16384x40) (k0_off2 k) S1x1x40.size (k0_off2_inb k)).toLoadRect X_arg5)) (k0_pay7 (View.readAt (Elt Ideal) arg6.view (Rect.unit (s := S1x16384x40x64) (k0_off1 k) S1x1x40x64.size (k0_off1_inb k)).toLoadRect X_arg6)) (View.readAt (Elt Ideal) arg7.view (Rect.unit (s := S1x16384x40x64) (k0_off1 k) S1x1x40x64.size (k0_off1_inb k)).toLoadRect X_arg7) (View.readAt (Elt Ideal) arg8.view (Rect.unit (s := S1x16384x40x64) (k0_off1 k) S1x1x40x64.size (k0_off1_inb k)).toLoadRect X_arg8)) (View.readAt (Elt Ideal) arg6.view (Rect.unit (s := S1x16384x40x64) (k0_off4 k) S1x1x40x64.size (k0_off4_inb k)).toLoadRect X_arg6) (View.readAt (Elt Ideal) arg7.view (Rect.unit (s := S1x16384x40x64) (k0_off4 k) S1x1x40x64.size (k0_off4_inb k)).toLoadRect X_arg7) (View.readAt (Elt Ideal) arg8.view (Rect.unit (s := S1x16384x40x64) (k0_off4 k) S1x1x40x64.size (k0_off4_inb k)).toLoadRect X_arg8)) (k0_pay14 (View.readAt (Elt Ideal) arg4.view (Rect.unit (s := S1x16384x40x128) (k0_off6 k) S1x1x40x128.size (k0_off6_inb k)).toLoadRect X_arg4) (View.readAt (Elt Ideal) arg5.view (Rect.unit (s := S1x16384x40) (k0_off5 k) S1x1x40.size (k0_off5_inb k)).toLoadRect X_arg5)))⟩] := by
  unfold tripL_k0_t1 trip_k0_t1
  rfl

end Cert.Ref
-- ==== Proof.RefRun.lean ====
/- The reference's loop on real inputs, by induction on the trips: the state it carries and the rows it has stored. -/
module

public import proofs.«01_k».proof.Proof.RefTrip
public import proofs.«01_k».proof.Proof.Args
public import Idealize.ShloMosaic.Lib.Pipeline.ValueKit

@[expose] public section

set_option maxRecDepth 16384

noncomputable section

namespace Cert.Ref

open Cert.ReferenceIdeal Cert.ReferenceIdeal.Gen Idealize.ShloMosaic Idealize.ShloMosaic.TcCoe Idealize.ShloMosaic.Tactic Idealize.SL.Sem
open Cert.Head (Seqs ArgsAre)

/-- The loop runs over the pairs of tokens. -/
theorem trips_eq : k0_t1_loop.trips = 8192 := by decide +kernel

theorem pair_lt (k : Fin k0_t1_loop.trips) : 2 * k.val + 1 < 16384 := by
  have := k.isLt
  have := trips_eq
  omega

/-! ## The blocks of the pair's two tokens -/

theorem ld1 {e : EltTy} (x : Vec Ideal S1x16384x40x64 e) (k : Fin k0_t1_loop.trips) (h : Fin 40) (z : Fin 64) :
    View.ld x (Rect.unit (s := S1x16384x40x64) (k0_off1 k) S1x1x40x64.size (k0_off1_inb k)) (ix4 0 0 h z) = x (ix4 0 ⟨2 * k.val, by have := pair_lt k; omega⟩ h z) := by
  refine View.ld_unit_apply_of x _ _ _ _ _ fun a => Eq.trans ?_ (congrArg (· + _) (congrFun (k0_off1_eq k) a).symm)
  fin_cases a <;> simp

theorem ld4 {e : EltTy} (x : Vec Ideal S1x16384x40x64 e) (k : Fin k0_t1_loop.trips) (h : Fin 40) (z : Fin 64) :
    View.ld x (Rect.unit (s := S1x16384x40x64) (k0_off4 k) S1x1x40x64.size (k0_off4_inb k)) (ix4 0 0 h z) = x (ix4 0 ⟨2 * k.val + 1, pair_lt k⟩ h z) := by
  refine View.ld_unit_apply_of x _ _ _ _ _ fun a => Eq.trans ?_ (congrArg (· + _) (congrFun (k0_off4_eq k) a).symm)
  fin_cases a <;> simp

theorem ld2 {e : EltTy} (x : Vec Ideal S1x16384x40 e) (k : Fin k0_t1_loop.trips) (h : Fin 40) :
    View.ld x (Rect.unit (s := S1x16384x40) (k0_off2 k) S1x1x40.size (k0_off2_inb k)) (ix3 0 0 h) = x (ix3 0 ⟨2 * k.val, by have := pair_lt k; omega⟩ h) := by
  refine View.ld_unit_apply_of x _ _ _ _ _ fun a => Eq.trans ?_ (congrArg (· + _) (congrFun (k0_off2_eq k) a).symm)
  fin_cases a <;> simp

theorem ld5 {e : EltTy} (x : Vec Ideal S1x16384x40 e) (k : Fin k0_t1_loop.trips) (h : Fin 40) :
    View.ld x (Rect.unit (s := S1x16384x40) (k0_off5 k) S1x1x40.size (k0_off5_inb k)) (ix3 0 0 h) = x (ix3 0 ⟨2 * k.val + 1, pair_lt k⟩ h) := by
  refine View.ld_unit_apply_of x _ _ _ _ _ fun a => Eq.trans ?_ (congrArg (· + _) (congrFun (k0_off5_eq k) a).symm)
  fin_cases a <;> simp

theorem ld3 {e : EltTy} (x : Vec Ideal S1x16384x40x128 e) (k : Fin k0_t1_loop.trips) (h : Fin 40) (z : Fin 128) :
    View.ld x (Rect.unit (s := S1x16384x40x128) (k0_off3 k) S1x1x40x128.size (k0_off3_inb k)) (ix4 0 0 h z) = x (ix4 0 ⟨2 * k.val, by have := pair_lt k; omega⟩ h z) := by
  refine View.ld_unit_apply_of x _ _ _ _ _ fun a => Eq.trans ?_ (congrArg (· + _) (congrFun (k0_off3_eq k) a).symm)
  fin_cases a <;> simp

theorem ld6 {e : EltTy} (x : Vec Ideal S1x16384x40x128 e) (k : Fin k0_t1_loop.trips) (h : Fin 40) (z : Fin 128) :
    View.ld x (Rect.unit (s := S1x16384x40x128) (k0_off6 k) S1x1x40x128.size (k0_off6_inb k)) (ix4 0 0 h z) = x (ix4 0 ⟨2 * k.val + 1, pair_lt k⟩ h z) := by
  refine View.ld_unit_apply_of x _ _ _ _ _ fun a => Eq.trans ?_ (congrArg (· + _) (congrFun (k0_off6_eq k) a).symm)
  fin_cases a <;> simp

theorem tok_first {q : Seqs} (x0 : Vec Ideal S1x16384x40x64 .fp8e4m3) (x1 : Vec Ideal S1x16384x40 .f32) (x2 : Vec Ideal S1x16384x40x64 .fp8e4m3) (x3 : Vec Ideal S1x16384x40 .f32) (x4 : Vec Ideal S1x16384x40x128 .fp8e4m3) (x5 : Vec Ideal S1x16384x40 .f32) (x6 : Vec Ideal S1x16384x40x64 .bf16) (x7 : Vec Ideal S1x16384x40x64 .bf16) (x8 : Vec Ideal S1x16384x40x64 .f32) (x9 : Vec Ideal S1x40x128x64 .f32) (hq : ArgsAre q x0 x1 x2 x3 x4 x5 x6 x7 x8 x9) (k : Fin k0_t1_loop.trips) :
    Tok q (2 * k.val) (View.ld x0 (Rect.unit (s := S1x16384x40x64) (k0_off1 k) S1x1x40x64.size (k0_off1_inb k))) (View.ld x1 (Rect.unit (s := S1x16384x40) (k0_off2 k) S1x1x40.size (k0_off2_inb k))) (View.ld x2 (Rect.unit (s := S1x16384x40x64) (k0_off1 k) S1x1x40x64.size (k0_off1_inb k))) (View.ld x3 (Rect.unit (s := S1x16384x40) (k0_off2 k) S1x1x40.size (k0_off2_inb k))) (View.ld x4 (Rect.unit (s := S1x16384x40x128) (k0_off3 k) S1x1x40x128.size (k0_off3_inb k))) (View.ld x5 (Rect.unit (s := S1x16384x40) (k0_off2 k) S1x1x40.size (k0_off2_inb k))) (View.ld x6 (Rect.unit (s := S1x16384x40x64) (k0_off1 k) S1x1x40x64.size (k0_off1_inb k))) (View.ld x7 (Rect.unit (s := S1x16384x40x64) (k0_off1 k) S1x1x40x64.size (k0_off1_inb k))) (View.ld x8 (Rect.unit (s := S1x16384x40x64) (k0_off1 k) S1x1x40x64.size (k0_off1_inb k))) where
  r h z := by rw [ld1, ld2]; exact hq.r _ h z
  k h z := by rw [ld1, ld2]; exact hq.k _ h z
  v h z := by rw [ld3, ld2]; exact hq.v _ h z
  a h z := by rw [ld1]; exact hq.a _ h z
  b h z := by rw [ld1]; exact hq.b _ h z
  w h z := by rw [ld1]; exact hq.w _ h z

theorem tok_second {q : Seqs} (x0 : Vec Ideal S1x16384x40x64 .fp8e4m3) (x1 : Vec Ideal S1x16384x40 .f32) (x2 : Vec Ideal S1x16384x40x64 .fp8e4m3) (x3 : Vec Ideal S1x16384x40 .f32) (x4 : Vec Ideal S1x16384x40x128 .fp8e4m3) (x5 : Vec Ideal S1x16384x40 .f32) (x6 : Vec Ideal S1x16384x40x64 .bf16) (x7 : Vec Ideal S1x16384x40x64 .bf16) (x8 : Vec Ideal S1x16384x40x64 .f32) (x9 : Vec Ideal S1x40x128x64 .f32) (hq : ArgsAre q x0 x1 x2 x3 x4 x5 x6 x7 x8 x9) (k : Fin k0_t1_loop.trips) :
    Tok q (2 * k.val + 1) (View.ld x0 (Rect.unit (s := S1x16384x40x64) (k0_off4 k) S1x1x40x64.size (k0_off4_inb k))) (View.ld x1 (Rect.unit (s := S1x16384x40) (k0_off5 k) S1x1x40.size (k0_off5_inb k))) (View.ld x2 (Rect.unit (s := S1x16384x40x64) (k0_off4 k) S1x1x40x64.size (k0_off4_inb k))) (View.ld x3 (Rect.unit (s := S1x16384x40) (k0_off5 k) S1x1x40.size (k0_off5_inb k))) (View.ld x4 (Rect.unit (s := S1x16384x40x128) (k0_off6 k) S1x1x40x128.size (k0_off6_inb k))) (View.ld x5 (Rect.unit (s := S1x16384x40) (k0_off5 k) S1x1x40.size (k0_off5_inb k))) (View.ld x6 (Rect.unit (s := S1x16384x40x64) (k0_off4 k) S1x1x40x64.size (k0_off4_inb k))) (View.ld x7 (Rect.unit (s := S1x16384x40x64) (k0_off4 k) S1x1x40x64.size (k0_off4_inb k))) (View.ld x8 (Rect.unit (s := S1x16384x40x64) (k0_off4 k) S1x1x40x64.size (k0_off4_inb k))) where
  r h z := by rw [ld4, ld5]; exact hq.r _ h z
  k h z := by rw [ld4, ld5]; exact hq.k _ h z
  v h z := by rw [ld6, ld5]; exact hq.v _ h z
  a h z := by rw [ld4]; exact hq.a _ h z
  b h z := by rw [ld4]; exact hq.b _ h z
  w h z := by rw [ld4]; exact hq.w _ h z

/-! ## The loop -/

section Loop

variable {q : Seqs} (c : Dev nD) (arg0 : Memref sig .tc .vmem S1x16384x40x64 .fp8e4m3) (harg0 : arg0.IsWhole) (arg1 : Memref sig .tc .vmem S1x16384x40 .f32) (harg1 : arg1.IsWhole) (arg2 : Memref sig .tc .vmem S1x16384x40x64 .fp8e4m3) (harg2 : arg2.IsWhole) (arg3 : Memref sig .tc .vmem S1x16384x40 .f32) (harg3 : arg3.IsWhole) (arg4 : Memref sig .tc .vmem S1x16384x40x128 .fp8e4m3) (harg4 : arg4.IsWhole) (arg5 : Memref sig .tc .vmem S1x16384x40 .f32) (harg5 : arg5.IsWhole) (arg6 : Memref sig .tc .vmem S1x16384x40x64 .bf16) (harg6 : arg6.IsWhole) (arg7 : Memref sig .tc .vmem S1x16384x40x64 .bf16) (harg7 : arg7.IsWhole) (arg8 : Memref sig .tc .vmem S1x16384x40x64 .f32) (harg8 : arg8.IsWhole) (arg9 : Memref sig .tc .vmem S1x40x128x64 .f32) (harg9 : arg9.IsWhole) (arg10 : Memref sig .tc .vmem S16384x5120 .bf16) (harg10 : arg10.IsWhole) (arg11 : Memref sig .tc .vmem S40x128x64 .f32) (harg11 : arg11.IsWhole)  (x0 : Vec Ideal S1x16384x40x64 .fp8e4m3) (x1 : Vec Ideal S1x16384x40 .f32) (x2 : Vec Ideal S1x16384x40x64 .fp8e4m3) (x3 : Vec Ideal S1x16384x40 .f32) (x4 : Vec Ideal S1x16384x40x128 .fp8e4m3) (x5 : Vec Ideal S1x16384x40 .f32) (x6 : Vec Ideal S1x16384x40x64 .bf16) (x7 : Vec Ideal S1x16384x40x64 .bf16) (x8 : Vec Ideal S1x16384x40x64 .f32) (x9 : Vec Ideal S1x40x128x64 .f32) (hq : ArgsAre q x0 x1 x2 x3 x4 x5 x6 x7 x8 x9)

/-- What has been stored before trip `k`: the rows of the tokens before it. -/
def Rows (q : Seqs) (k : ℕ) (L : List (View.Piece (Elt Ideal) S16384x5120 .bf16)) : Prop :=
  ∀ (t : Fin 16384) (c : Fin 5120), t.val < 2 * k → View.canon L (ix2 t c) = rowOf q t.val c

/-- The rectangle a trip stores: the pair's two rows. -/
def r7 (k : Fin k0_t1_loop.trips) : Rect S16384x5120 := Rect.unit (s := S16384x5120) (k0_off7 k) S2x5120.size (k0_off7_inb k)

theorem emb7 (k : Fin k0_t1_loop.trips) (i : Fin 2) (c : Fin 5120) :
    (r7 k).emb (ix2 i c)
      = ix2 (⟨2 * k.val + i.val, by have := pair_lt k; omega⟩ : Fin 16384) c := by
  funext a
  refine Fin.ext ((Rect.idx_unit_val _ _ (k0_off7_inb k) _ a).trans ?_)
  refine (congrArg (· + _) (congrFun (k0_off7_eq k) a)).trans ?_
  fin_cases a <;> simp

theorem rows_succ (k : Fin k0_t1_loop.trips) (L : List (View.Piece (Elt Ideal) S16384x5120 .bf16)) (hL : Rows q k.val L)
    (P : Vec Ideal S2x5120 .bf16) (h0 : ∀ c, P (ix2 0 c) = rowOf q (2 * k.val) c) (h1 : ∀ c, P (ix2 1 c) = rowOf q (2 * k.val + 1) c) :
    Rows q (k.val + 1) ((⟨r7 k, P⟩ : View.Piece (Elt Ideal) S16384x5120 .bf16) :: L) := by
  have hit : ∀ (i : Fin 2) (c : Fin 5120), View.canon ((⟨r7 k, P⟩ : View.Piece (Elt Ideal) S16384x5120 .bf16) :: L)
      (ix2 (⟨2 * k.val + i.val, by have := pair_lt k; omega⟩ : Fin 16384) c) = P (ix2 i c) := by
    intro i c
    exact (congrArg (View.canon _) (emb7 k i c).symm).trans (View.canon_cons_emb (r7 k) P L (ix2 i c))
  intro t c ht
  by_cases e : t.val < 2 * k.val
  · refine (View.canon_cons_of_not_mem _ L fun hm => ?_).trans (hL t c e)
    have h7 := (Rect.mem_set_unit (inb := k0_off7_inb k)).mp hm 0
    rw [k0_off7_eq k] at h7
    have h7' : 2 * k.val ≤ t.val := h7.1
    omega
  · by_cases e0 : t.val = 2 * k.val
    · have ht0 : t = ⟨2 * k.val + (0 : Fin 2).val, by have := pair_lt k; omega⟩ := Fin.ext e0
      exact (congrArg (fun s => View.canon _ (ix2 s c)) ht0).trans ((hit 0 c).trans ((h0 c).trans (congrArg (fun n => rowOf q n c) e0.symm)))
    · have e1 : t.val = 2 * k.val + 1 := by omega
      have ht1 : t = ⟨2 * k.val + (1 : Fin 2).val, pair_lt k⟩ := Fin.ext e1
      exact (congrArg (fun s => View.canon _ (ix2 s c)) ht1).trans ((hit 1 c).trans ((h1 c).trans (congrArg (fun n => rowOf q n c) e1.symm)))

include hq in
/-- One trip keeps both. -/
theorem trip_ok (k : Fin k0_t1_loop.trips) (acc : FVec Ideal S40x128x64 .f32) (hc : Carry q (2 * k.val) acc)
    (L : List (View.Piece (Elt Ideal) S16384x5120 .bf16)) (hL : Rows q k.val L) :
    Carry q (2 * (k.val + 1)) (tripR_k0_t1 (F := Ideal) Variants.none c none arg0 harg0 arg1 harg1 arg2 harg2 arg3 harg3 arg4 harg4 arg5 harg5 arg6 harg6 arg7 harg7 arg8 harg8 arg9 harg9 arg10 harg10 arg11 harg11 (harg0.unread x0) (harg1.unread x1) (harg2.unread x2) (harg3.unread x3) (harg4.unread x4) (harg5.unread x5) (harg6.unread x6) (harg7.unread x7) (harg8.unread x8) k acc)
      ∧ Rows q (k.val + 1) (tripL_k0_t1 (F := Ideal) Variants.none c none arg0 harg0 arg1 harg1 arg2 harg2 arg3 harg3 arg4 harg4 arg5 harg5 arg6 harg6 arg7 harg7 arg8 harg8 arg9 harg9 arg10 harg10 arg11 harg11 (harg0.unread x0) (harg1.unread x1) (harg2.unread x2) (harg3.unread x3) (harg4.unread x4) (harg5.unread x5) (harg6.unread x6) (harg7.unread x7) (harg8.unread x8) k acc ++ L) := by
  have hA := tok_first x0 x1 x2 x3 x4 x5 x6 x7 x8 x9 hq k
  have hB := tok_second x0 x1 x2 x3 x4 x5 x6 x7 x8 x9 hq k
  rw [tripR_eq, tripL_eq]
  simp only [View.readAt_eq_ld, harg0.read_unread, harg1.read_unread, harg2.read_unread, harg3.read_unread, harg4.read_unread, harg5.read_unread, harg6.read_unread, harg7.read_unread, harg8.read_unread]
  have hS := first_st hA hc
  refine ⟨second_st hB hS, rows_succ k L hL _ (fun c => ?_) (fun c => ?_)⟩
  · exact (upper_row _ _ _ _ _ c).trans (first_out hA hc c)
  · exact second_out hB hS _ c

include hq in
theorem loop_ok (init : FVec Ideal S40x128x64 .f32) (h0 : Carry q 0 init) (n : ℕ) (hn : n ≤ 8192) :
    Carry q (2 * n) (st_k0_t1 (F := Ideal) Variants.none c none arg0 harg0 arg1 harg1 arg2 harg2 arg3 harg3 arg4 harg4 arg5 harg5 arg6 harg6 arg7 harg7 arg8 harg8 arg9 harg9 arg10 harg10 arg11 harg11 (harg0.unread x0) (harg1.unread x1) (harg2.unread x2) (harg3.unread x3) (harg4.unread x4) (harg5.unread x5) (harg6.unread x6) (harg7.unread x7) (harg8.unread x8) init n).1
      ∧ Rows q n (st_k0_t1 (F := Ideal) Variants.none c none arg0 harg0 arg1 harg1 arg2 harg2 arg3 harg3 arg4 harg4 arg5 harg5 arg6 harg6 arg7 harg7 arg8 harg8 arg9 harg9 arg10 harg10 arg11 harg11 (harg0.unread x0) (harg1.unread x1) (harg2.unread x2) (harg3.unread x3) (harg4.unread x4) (harg5.unread x5) (harg6.unread x6) (harg7.unread x7) (harg8.unread x8) init n).2 := by
  induction n with
  | zero => exact ⟨h0, fun t _ ht => absurd ht (by omega)⟩
  | succ n ih =>
    have ih := ih (by omega)
    have e := st_k0_t1_succ (F := Ideal) Variants.none c none arg0 harg0 arg1 harg1 arg2 harg2 arg3 harg3 arg4 harg4 arg5 harg5 arg6 harg6 arg7 harg7 arg8 harg8 arg9 harg9 arg10 harg10 arg11 harg11 (harg0.unread x0) (harg1.unread x1) (harg2.unread x2) (harg3.unread x3) (harg4.unread x4) (harg5.unread x5) (harg6.unread x6) (harg7.unread x7) (harg8.unread x8) init ⟨n, by rw [trips_eq]; omega⟩
    rw [show n + 1 = (⟨n, by rw [trips_eq]; omega⟩ : Fin k0_t1_loop.trips).val + 1 from rfl, e]
    exact trip_ok c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 hq ⟨n, by rw [trips_eq]; omega⟩ _ ih.1 _ ih.2

end Loop

end Cert.Ref
-- ==== Proof.RefOut.lean ====
/- What the reference's run leaves in its two results, on real inputs. -/
module

public import proofs.«01_k».proof.Proof.RefRun
public import proofs.«01_k».proof.Proof.Gen.ReferenceIdeal.Frame

@[expose] public section

set_option maxRecDepth 16384

noncomputable section

namespace Cert.Ref

open Cert.ReferenceIdeal Cert.ReferenceIdeal.Gen Idealize.ShloMosaic Idealize.ShloMosaic.TcCoe Idealize.ShloMosaic.Tactic Idealize.SL.Sem
open Cert.Head (Seqs ArgsAre)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

variable {q : Seqs} (c : Dev nD) (arg0 : Memref sig .tc .vmem S1x16384x40x64 .fp8e4m3) (harg0 : arg0.IsWhole) (arg1 : Memref sig .tc .vmem S1x16384x40 .f32) (harg1 : arg1.IsWhole) (arg2 : Memref sig .tc .vmem S1x16384x40x64 .fp8e4m3) (harg2 : arg2.IsWhole) (arg3 : Memref sig .tc .vmem S1x16384x40 .f32) (harg3 : arg3.IsWhole) (arg4 : Memref sig .tc .vmem S1x16384x40x128 .fp8e4m3) (harg4 : arg4.IsWhole) (arg5 : Memref sig .tc .vmem S1x16384x40 .f32) (harg5 : arg5.IsWhole) (arg6 : Memref sig .tc .vmem S1x16384x40x64 .bf16) (harg6 : arg6.IsWhole) (arg7 : Memref sig .tc .vmem S1x16384x40x64 .bf16) (harg7 : arg7.IsWhole) (arg8 : Memref sig .tc .vmem S1x16384x40x64 .f32) (harg8 : arg8.IsWhole) (arg9 : Memref sig .tc .vmem S1x40x128x64 .f32) (harg9 : arg9.IsWhole) (arg10 : Memref sig .tc .vmem S16384x5120 .bf16) (harg10 : arg10.IsWhole) (arg11 : Memref sig .tc .vmem S40x128x64 .f32) (harg11 : arg11.IsWhole)  (x0 : Vec Ideal S1x16384x40x64 .fp8e4m3) (x1 : Vec Ideal S1x16384x40 .f32) (x2 : Vec Ideal S1x16384x40x64 .fp8e4m3) (x3 : Vec Ideal S1x16384x40 .f32) (x4 : Vec Ideal S1x16384x40x128 .fp8e4m3) (x5 : Vec Ideal S1x16384x40 .f32) (x6 : Vec Ideal S1x16384x40x64 .bf16) (x7 : Vec Ideal S1x16384x40x64 .bf16) (x8 : Vec Ideal S1x16384x40x64 .f32) (x9 : Vec Ideal S1x40x128x64 .f32) (hq : ArgsAre q x0 x1 x2 x3 x4 x5 x6 x7 x8 x9)

include hq

theorem out10 (t : Fin 16384) (n : Fin 5120) : out0_A_10 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 (ix2 t n) = rowOf q t.val n := by
  have h0 : Carry q 0 (k0_pay1 x9) := start q x9 hq.S
  have hl := (loop_ok c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 hq _ h0 k0_t1_loop.trips trips_eq.le).2 t n (by rw [trips_eq]; exact t.isLt)
  unfold out0_A_10
  rw [View.read_writes_junk_eq_canon]
  unfold kernelRun0_A
  dsimp only
  simp only [View.readAt_eq_ld, harg9.read_unread, View.ld_unit_zero hz4 _ x9]
  exact hl

theorem out11 (h : Fin 40) (y : Fin 128) (z : Fin 64) : out0_A_11 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 (ix3 h y z) = ((q.st h.val 16384 z y : ℝ) : EReal) := by
  have h0 : Carry q 0 (k0_pay1 x9) := start q x9 hq.S
  have hl := (loop_ok c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 hq _ h0 k0_t1_loop.trips trips_eq.le).1 h y z
  have e : 2 * k0_t1_loop.trips = 16384 := by rw [trips_eq]
  rw [e] at hl
  unfold out0_A_11
  rw [View.read_writes_junk_eq_canon]
  unfold kernelRun0_A
  dsimp only
  rw [View.canon_unit_zero hz3]
  simp only [View.readAt_eq_ld, harg9.read_unread, View.ld_unit_zero hz4 _ x9]
  exact hl

end Cert.Ref
-- ==== Proof.RefEnd.lean ====
/- The reference's results: on arguments that hold real sequences, the recurrence's outputs and final states. -/
module

public import proofs.«01_k».proof.Proof.RefOut
public import proofs.«01_k».proof.Proof.Gen.ReferenceIdeal.Value
public import Idealize.ShloMosaic.Lib.Pipeline.ValueKit

@[expose] public section

set_option maxRecDepth 16384

noncomputable section

namespace Cert.Ref

open Cert.ReferenceIdeal Cert.ReferenceIdeal.Gen Idealize.ShloMosaic Idealize.ShloMosaic.TcCoe Idealize.ShloMosaic.Tactic Idealize.SL.Sem
open Cert.ReferenceIdeal.Value
open Cert.Head (Seqs ArgsAre)

variable (m : (ℓ : Loc nD τ sig) → Buf (Elt Ideal) ℓ)

/-! ## The blocks: each the whole of its argument -/

theorem idx0 : ∀ p : Fin cfg0.N, win0_0.index p = ![0, 0, 0, 0] :=
  (by decide +kernel : ∀ p : Fin grid0.N, _)

theorem blk0 (c : Dev nD) (p : Fin cfg0.N) (t : Fin 16384) (h : Fin 40) (x : Fin 64) :
    iblk m c 0 p (ix4 0 t h x) = m ((c : Thread nD τ).loc main_arg0) (ix4 0 t h x) := by
  have e : iblk m c 0 p (ix4 0 t h x) = V m c main_v0 (ix4 0 t h x) := by
    blk_ext [iblk, idx0 p]
  rw [e]
  unfold V
  entry_read
  pointwise []

theorem idx1 : ∀ p : Fin cfg0.N, win0_1.index p = ![0, 0, 0] :=
  (by decide +kernel : ∀ p : Fin grid0.N, _)

theorem blk1 (c : Dev nD) (p : Fin cfg0.N) (t : Fin 16384) (h : Fin 40) :
    iblk m c 1 p (ix3 0 t h) = m ((c : Thread nD τ).loc main_arg1) (ix3 0 t h) := by
  have e : iblk m c 1 p (ix3 0 t h) = V m c main_arg1 (ix3 0 t h) := by
    blk_ext [iblk, idx1 p]
  rw [e]
  exact congrFun (V_main_arg1 m c) _

theorem idx2 : ∀ p : Fin cfg0.N, win0_2.index p = ![0, 0, 0, 0] :=
  (by decide +kernel : ∀ p : Fin grid0.N, _)

theorem blk2 (c : Dev nD) (p : Fin cfg0.N) (t : Fin 16384) (h : Fin 40) (x : Fin 64) :
    iblk m c 2 p (ix4 0 t h x) = m ((c : Thread nD τ).loc main_arg2) (ix4 0 t h x) := by
  have e : iblk m c 2 p (ix4 0 t h x) = V m c main_v1 (ix4 0 t h x) := by
    blk_ext [iblk, idx2 p]
  rw [e]
  unfold V
  entry_read
  pointwise []

theorem idx3 : ∀ p : Fin cfg0.N, win0_3.index p = ![0, 0, 0] :=
  (by decide +kernel : ∀ p : Fin grid0.N, _)

theorem blk3 (c : Dev nD) (p : Fin cfg0.N) (t : Fin 16384) (h : Fin 40) :
    iblk m c 3 p (ix3 0 t h) = m ((c : Thread nD τ).loc main_arg3) (ix3 0 t h) := by
  have e : iblk m c 3 p (ix3 0 t h) = V m c main_arg3 (ix3 0 t h) := by
    blk_ext [iblk, idx3 p]
  rw [e]
  exact congrFun (V_main_arg3 m c) _

theorem idx4 : ∀ p : Fin cfg0.N, win0_4.index p = ![0, 0, 0, 0] :=
  (by decide +kernel : ∀ p : Fin grid0.N, _)

theorem blk4 (c : Dev nD) (p : Fin cfg0.N) (t : Fin 16384) (h : Fin 40) (x : Fin 128) :
    iblk m c 4 p (ix4 0 t h x) = m ((c : Thread nD τ).loc main_arg4) (ix4 0 t h x) := by
  have e : iblk m c 4 p (ix4 0 t h x) = V m c main_v2 (ix4 0 t h x) := by
    blk_ext [iblk, idx4 p]
  rw [e]
  unfold V
  entry_read
  pointwise []

theorem idx5 : ∀ p : Fin cfg0.N, win0_5.index p = ![0, 0, 0] :=
  (by decide +kernel : ∀ p : Fin grid0.N, _)

theorem blk5 (c : Dev nD) (p : Fin cfg0.N) (t : Fin 16384) (h : Fin 40) :
    iblk m c 5 p (ix3 0 t h) = m ((c : Thread nD τ).loc main_arg5) (ix3 0 t h) := by
  have e : iblk m c 5 p (ix3 0 t h) = V m c main_arg5 (ix3 0 t h) := by
    blk_ext [iblk, idx5 p]
  rw [e]
  exact congrFun (V_main_arg5 m c) _

theorem idx6 : ∀ p : Fin cfg0.N, win0_6.index p = ![0, 0, 0, 0] :=
  (by decide +kernel : ∀ p : Fin grid0.N, _)

theorem blk6 (c : Dev nD) (p : Fin cfg0.N) (t : Fin 16384) (h : Fin 40) (x : Fin 64) :
    iblk m c 6 p (ix4 0 t h x) = m ((c : Thread nD τ).loc main_arg6) (ix4 0 t h x) := by
  have e : iblk m c 6 p (ix4 0 t h x) = V m c main_arg6 (ix4 0 t h x) := by
    blk_ext [iblk, idx6 p]
  rw [e]
  exact congrFun (V_main_arg6 m c) _

theorem idx7 : ∀ p : Fin cfg0.N, win0_7.index p = ![0, 0, 0, 0] :=
  (by decide +kernel : ∀ p : Fin grid0.N, _)

theorem blk7 (c : Dev nD) (p : Fin cfg0.N) (t : Fin 16384) (h : Fin 40) (x : Fin 64) :
    iblk m c 7 p (ix4 0 t h x) = m ((c : Thread nD τ).loc main_arg7) (ix4 0 t h x) := by
  have e : iblk m c 7 p (ix4 0 t h x) = V m c main_arg7 (ix4 0 t h x) := by
    blk_ext [iblk, idx7 p]
  rw [e]
  exact congrFun (V_main_arg7 m c) _

theorem idx8 : ∀ p : Fin cfg0.N, win0_8.index p = ![0, 0, 0, 0] :=
  (by decide +kernel : ∀ p : Fin grid0.N, _)

theorem blk8 (c : Dev nD) (p : Fin cfg0.N) (t : Fin 16384) (h : Fin 40) (x : Fin 64) :
    iblk m c 8 p (ix4 0 t h x) = m ((c : Thread nD τ).loc main_arg8) (ix4 0 t h x) := by
  have e : iblk m c 8 p (ix4 0 t h x) = V m c main_arg8 (ix4 0 t h x) := by
    blk_ext [iblk, idx8 p]
  rw [e]
  exact congrFun (V_main_arg8 m c) _

theorem idx9 : ∀ p : Fin cfg0.N, win0_9.index p = ![0, 0, 0, 0] :=
  (by decide +kernel : ∀ p : Fin grid0.N, _)

theorem blk9 (c : Dev nD) (p : Fin cfg0.N) (h : Fin 40) (y : Fin 128) (x : Fin 64) :
    iblk m c 9 p (ix4 0 h y x) = m ((c : Thread nD τ).loc main_arg9) (ix4 0 h y x) := by
  have e : iblk m c 9 p (ix4 0 h y x) = V m c main_arg9 (ix4 0 h y x) := by
    blk_ext [iblk, idx9 p]
  rw [e]
  exact congrFun (V_main_arg9 m c) _

/-! ## The results -/

/-- The grid's one point. -/
def pt : Fin cfg0.N := ⟨0, lt_of_lt_of_eq (by decide) N_0.symm⟩

theorem idx10 : ∀ p : Fin cfg0.N, win0_10.index p = ![0, 0] := (by decide +kernel : ∀ p : Fin grid0.N, _)
theorem idx11 : ∀ p : Fin cfg0.N, win0_11.index p = ![0, 0, 0] := (by decide +kernel : ∀ p : Fin grid0.N, _)

theorem read10 (X : S16384x5120.Idx → EReal) (t : Fin 16384) (n : Fin 5120) :
    ((cfg0.win 10).blk pt).view.read (Elt Ideal) X (ix2 t n) = X (ix2 t n) := by
  blk_ext [idx10 pt]

theorem read11 (X : S40x128x64.Idx → EReal) (h : Fin 40) (y : Fin 128) (x : Fin 64) :
    ((cfg0.win 11).blk pt).view.read (Elt Ideal) X (ix3 h y x) = X (ix3 h y x) := by
  blk_ext [idx11 pt]

variable {q : Seqs} (c : Dev nD) (hq : ArgsAre q (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))

include hq

theorem args_blk (p : Fin cfg0.N) : ArgsAre q (iblk m c 0 p) (iblk m c 1 p) (iblk m c 2 p) (iblk m c 3 p) (iblk m c 4 p) (iblk m c 5 p) (iblk m c 6 p) (iblk m c 7 p) (iblk m c 8 p) (iblk m c 9 p) where
  r t h x := by rw [blk0, blk1]; exact hq.r t h x
  k t h x := by rw [blk2, blk3]; exact hq.k t h x
  v t h x := by rw [blk4, blk5]; exact hq.v t h x
  a t h x := by rw [blk6]; exact hq.a t h x
  b t h x := by rw [blk7]; exact hq.b t h x
  w t h x := by rw [blk8]; exact hq.w t h x
  S h y x := by rw [blk9]; exact hq.S h y x

theorem ref_out (t : Fin 16384) (n : Fin 5120) : (dats m 0 c).arrAt 10 cfg0.N (ix2 t n) = rowOf q t.val n := by
  have h := congrFun (blocks10 m c pt (flush0_10 pt)) (ix2 t n)
  rw [flushed10_A] at h
  refine Eq.trans ?_ (h.trans ?_)
  · exact (read10 _ t n).symm
  · let p := pt
    exact out10 c (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) (ms0_9 p) (hs0_9 p) (ms0_10 p) (hs0_10 p) (ms0_11 p) (hs0_11 p) (iblk m c 0 p) (iblk m c 1 p) (iblk m c 2 p) (iblk m c 3 p) (iblk m c 4 p) (iblk m c 5 p) (iblk m c 6 p) (iblk m c 7 p) (iblk m c 8 p) (iblk m c 9 p) (args_blk m c hq p) t n

theorem ref_st (h : Fin 40) (y : Fin 128) (x : Fin 64) : (dats m 0 c).arrAt 11 cfg0.N (ix3 h y x) = ((q.st h.val 16384 x y : ℝ) : EReal) := by
  have e := congrFun (blocks11 m c pt (flush0_11 pt)) (ix3 h y x)
  rw [flushed11_A] at e
  refine Eq.trans ?_ (e.trans ?_)
  · exact (read11 _ h y x).symm
  · let p := pt
    exact out11 c (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) (ms0_9 p) (hs0_9 p) (ms0_10 p) (hs0_10 p) (ms0_11 p) (hs0_11 p) (iblk m c 0 p) (iblk m c 1 p) (iblk m c 2 p) (iblk m c 3 p) (iblk m c 4 p) (iblk m c 5 p) (iblk m c 6 p) (iblk m c 7 p) (iblk m c 8 p) (iblk m c 9 p) (args_blk m c hq p) h y x

end Cert.Ref
-- ==== Proof.Pre.lean ====
/- Arguments that the precondition accepts are real, element by element. -/
module

public import Idealize.ShloMosaic.Lib.Pointwise
public import proofs.«01_k».proof.Proof.Args
public import proofs.«01_k».proof.Defs

@[expose] public section

set_option maxRecDepth 16384

noncomputable section

namespace Cert.Pre

open Idealize.ShloMosaic Idealize.ShloMosaic.TcCoe Cert.Pre_finite Cert.Pre_finite.Facts
open Cert.Head (Seqs ArgsAre AK AV AC AS)

/-- An extended real whose absolute value is below the top is real. -/
theorem coe_toReal {x : EReal} (h : max x (-x) < ⊤) : ((x.toReal : ℝ) : EReal) = x := by
  refine EReal.coe_toReal (fun e => ?_) (fun e => ?_)
  · subst e; simp at h
  · subst e; simp at h

/-- An array the comparison with the top accepts is real at each index. -/
theorem real32 {s : Shape} (hb : S_.BroadcastsInDim s (![] : Fin 0 → Fin s.rank)) (A : FVec Ideal s .f32)
    (h : cmpf .olt (Host.absf A) (broadcastInDim s ![] hb (constant S_ .f32 0x7F800000#32 : FVec Ideal S_ .f32)) = fun _ => 1#1) (j : s.Idx) :
    (((A j : EReal).toReal : ℝ) : EReal) = A j := by
  have e := congrFun h j
  have ht : Ideal.ofBits .f32 0x7F800000#32 = ⊤ := by simp [Ideal.ofBits, Ideal.ieee]
  refine coe_toReal ?_
  by_contra hc
  simp only [cmpf, Host.absf, broadcastInDim, constant] at e
  have e' : Ideal.cmp .olt (max (A j) (-A j)) (Ideal.ofBits .f32 0x7F800000#32) = 1#1 := e
  rw [ht] at e'
  simp [Ideal.cmp, hc] at e'

/-- An array the comparison with the top accepts is real at each index. -/
theorem real16 {s : Shape} (hb : S_.BroadcastsInDim s (![] : Fin 0 → Fin s.rank)) (A : FVec Ideal s .bf16)
    (h : cmpf .olt (Host.absf A) (broadcastInDim s ![] hb (constant S_ .bf16 0x7F80#16 : FVec Ideal S_ .bf16)) = fun _ => 1#1) (j : s.Idx) :
    (((A j : EReal).toReal : ℝ) : EReal) = A j := by
  have e := congrFun h j
  have ht : Ideal.ofBits .bf16 0x7F80#16 = ⊤ := by simp [Ideal.ofBits, Ideal.ieee]
  refine coe_toReal ?_
  by_contra hc
  simp only [cmpf, Host.absf, broadcastInDim, constant] at e
  have e' : Ideal.cmp .olt (max (A j) (-A j)) (Ideal.ofBits .bf16 0x7F80#16) = 1#1 := e
  rw [ht] at e'
  simp [Ideal.cmp, hc] at e'

/-- The reals an array of tokens by heads by lanes holds, and those of an array of tokens by heads. -/
def lanes {n : ℕ} (A : (⟨4, ![1, 16384, 40, n]⟩ : Shape).Idx → EReal) (h t : ℕ) (x : Fin n) : ℝ :=
  if H : h < 40 ∧ t < 16384 then (A (ix4 0 ⟨t, H.2⟩ ⟨h, H.1⟩ x)).toReal else 0
def scale (A : AC.Idx → EReal) (h t : ℕ) : ℝ :=
  if H : h < 40 ∧ t < 16384 then (A (ix3 0 ⟨t, H.2⟩ ⟨h, H.1⟩)).toReal else 0

theorem lanes_at {n : ℕ} (A : (⟨4, ![1, 16384, 40, n]⟩ : Shape).Idx → EReal) (hA : ∀ j, (((A j).toReal : ℝ) : EReal) = A j)
    (t : Fin 16384) (h : Fin 40) (x : Fin n) : A (ix4 0 t h x) = ((lanes A h.val t.val x : ℝ) : EReal) := by
  unfold lanes
  rw [dif_pos ⟨h.isLt, t.isLt⟩]
  exact (hA _).symm

theorem scale_at (A : AC.Idx → EReal) (hA : ∀ j, (((A j).toReal : ℝ) : EReal) = A j)
    (t : Fin 16384) (h : Fin 40) : A (ix3 0 t h) = ((scale A h.val t.val : ℝ) : EReal) := by
  unfold scale
  rw [dif_pos ⟨h.isLt, t.isLt⟩]
  exact (hA _).symm

/-- The reals of the starting states, transposed as the recurrence writes them. -/
def first (A : AS.Idx → EReal) (h : ℕ) (x : Fin 64) (y : Fin 128) : ℝ :=
  if H : h < 40 then (A (ix4 0 ⟨h, H⟩ y x)).toReal else 0

theorem first_at (A : AS.Idx → EReal) (hA : ∀ j, (((A j).toReal : ℝ) : EReal) = A j)
    (h : Fin 40) (y : Fin 128) (x : Fin 64) : A (ix4 0 h y x) = ((first A h.val x y : ℝ) : EReal) := by
  unfold first
  rw [dif_pos h.isLt]
  exact (hA _).symm

/-- The sequences the arguments hold. -/
def seqs (A0 : FVec Ideal S1x16384x40x64 .f32) (A1 : FVec Ideal S1x16384x40 .f32) (A2 : FVec Ideal S1x16384x40x64 .f32) (A3 : FVec Ideal S1x16384x40 .f32) (A4 : FVec Ideal S1x16384x40x128 .f32) (A5 : FVec Ideal S1x16384x40 .f32) (A6 : FVec Ideal S1x16384x40x64 .bf16) (A7 : FVec Ideal S1x16384x40x64 .bf16) (A8 : FVec Ideal S1x16384x40x64 .f32) (A9 : FVec Ideal S1x40x128x64 .f32) : Seqs where
  r h t x := lanes A0 h t x * scale A1 h t
  k h t x := lanes A2 h t x * scale A3 h t
  v h t x := lanes A4 h t x * scale A5 h t
  a h t x := lanes A6 h t x
  b h t x := lanes A7 h t x
  w h t x := lanes A8 h t x
  S h x y := first A9 h x y

variable [Cert.Pre_finite.Facts]

theorem args_are (A0 : FVec Ideal S1x16384x40x64 .f32) (A1 : FVec Ideal S1x16384x40 .f32) (A2 : FVec Ideal S1x16384x40x64 .f32) (A3 : FVec Ideal S1x16384x40 .f32) (A4 : FVec Ideal S1x16384x40x128 .f32) (A5 : FVec Ideal S1x16384x40 .f32) (A6 : FVec Ideal S1x16384x40x64 .bf16) (A7 : FVec Ideal S1x16384x40x64 .bf16) (A8 : FVec Ideal S1x16384x40x64 .f32) (A9 : FVec Ideal S1x40x128x64 .f32)
    (h0 : (Cert.Pre_finite.fn (F := Ideal) A0 A1 A2 A3 A4 A5 A6 A7 A8 A9).1 = fun _ => 1#1) (h1 : (Cert.Pre_finite.fn (F := Ideal) A0 A1 A2 A3 A4 A5 A6 A7 A8 A9).2.1 = fun _ => 1#1) (h2 : (Cert.Pre_finite.fn (F := Ideal) A0 A1 A2 A3 A4 A5 A6 A7 A8 A9).2.2.1 = fun _ => 1#1) (h3 : (Cert.Pre_finite.fn (F := Ideal) A0 A1 A2 A3 A4 A5 A6 A7 A8 A9).2.2.2.1 = fun _ => 1#1) (h4 : (Cert.Pre_finite.fn (F := Ideal) A0 A1 A2 A3 A4 A5 A6 A7 A8 A9).2.2.2.2.1 = fun _ => 1#1) (h5 : (Cert.Pre_finite.fn (F := Ideal) A0 A1 A2 A3 A4 A5 A6 A7 A8 A9).2.2.2.2.2.1 = fun _ => 1#1) (h6 : (Cert.Pre_finite.fn (F := Ideal) A0 A1 A2 A3 A4 A5 A6 A7 A8 A9).2.2.2.2.2.2.1 = fun _ => 1#1) (h7 : (Cert.Pre_finite.fn (F := Ideal) A0 A1 A2 A3 A4 A5 A6 A7 A8 A9).2.2.2.2.2.2.2.1 = fun _ => 1#1) (h8 : (Cert.Pre_finite.fn (F := Ideal) A0 A1 A2 A3 A4 A5 A6 A7 A8 A9).2.2.2.2.2.2.2.2.1 = fun _ => 1#1) (h9 : (Cert.Pre_finite.fn (F := Ideal) A0 A1 A2 A3 A4 A5 A6 A7 A8 A9).2.2.2.2.2.2.2.2.2 = fun _ => 1#1) :
    ArgsAre (seqs A0 A1 A2 A3 A4 A5 A6 A7 A8 A9) A0 A1 A2 A3 A4 A5 A6 A7 A8 A9 where
  r t h x := by
    refine (congrArg₂ (· * ·) (lanes_at _ (real32 bcast_S_S1x16384x40x64 A0 h0) t h x) (scale_at _ (real32 bcast_S_S1x16384x40 A1 h1) t h)).trans ?_
    exact (EReal.coe_mul _ _).symm
  k t h x := by
    refine (congrArg₂ (· * ·) (lanes_at _ (real32 bcast_S_S1x16384x40x64 A2 h2) t h x) (scale_at _ (real32 bcast_S_S1x16384x40 A3 h3) t h)).trans ?_
    exact (EReal.coe_mul _ _).symm
  v t h x := by
    refine (congrArg₂ (· * ·) (lanes_at _ (real32 bcast_S_S1x16384x40x128 A4 h4) t h x) (scale_at _ (real32 bcast_S_S1x16384x40 A5 h5) t h)).trans ?_
    exact (EReal.coe_mul _ _).symm
  a t h x := lanes_at _ (real16 bcast_S_S1x16384x40x64 A6 h6) t h x
  b t h x := lanes_at _ (real16 bcast_S_S1x16384x40x64 A7 h7) t h x
  w t h x := lanes_at _ (real32 bcast_S_S1x16384x40x64 A8 h8) t h x
  S h y x := first_at _ (real32 bcast_S_S1x40x128x64 A9 h9) h y x

end Cert.Pre
-- ==== Proof.Equal.lean ====
/- The two programs leave the same arrays: each leaves the recurrence's outputs and final states. -/
module

public import proofs.«01_k».proof.Proof.Grid
public import proofs.«01_k».proof.Proof.RefEnd
public import proofs.«01_k».proof.Proof.Pre
public import proofs.«01_k».proof.Proof.Gen.Pre_finite
import Idealize.ShloMosaic.Lib.Pointwise

@[expose] public section

set_option maxRecDepth 16384

noncomputable section

namespace Cert.Equal

open Idealize.ShloMosaic Idealize.ShloMosaic.TcCoe Idealize.SL.Sem
open Cert.Head (Seqs ArgsAre)

/-- Arrays of tokens by lanes that hold the same outputs, head by head, are equal. -/
theorem same_out {q : Seqs} (X Y : (⟨2, ![16384, 5120]⟩ : Shape).Idx → EReal)
    (hX : ∀ (t : Fin 16384) (h : Fin 40) (y : Fin 128), X (ix2 t (⟨h.val * 128 + y.val, by omega⟩ : Fin 5120)) = ((q.out h.val t.val y : ℝ) : EReal))
    (hY : ∀ (t : Fin 16384) (n : Fin 5120), Y (ix2 t n) = Cert.Ref.rowOf q t.val n) : Y = X := by
  have key : ∀ (t : Fin 16384) (n : Fin 5120), Y (ix2 t n) = X (ix2 t n) := fun t n => by
    have e : (⟨n.val / 128 * 128 + n.val % 128, by omega⟩ : Fin 5120) = n := Fin.ext (by show n.val / 128 * 128 + n.val % 128 = n.val; omega)
    have hx := hX t ⟨n.val / 128, by omega⟩ ⟨n.val % 128, by omega⟩
    exact (hY t n).trans (hx.symm.trans (congrArg (fun s => X (ix2 t s)) e))
  funext i
  exact (congrArg Y (ix2_eta i).symm).trans ((key (i 0) (i 1)).trans (congrArg X (ix2_eta i)))

/-- Arrays of heads by values by lanes that hold the same states are equal. -/
theorem same_st {q : Seqs} (X Y : (⟨3, ![40, 128, 64]⟩ : Shape).Idx → EReal)
    (hX : ∀ (h : Fin 40) (y : Fin 128) (x : Fin 64), X (ix3 h y x) = ((q.st h.val 16384 x y : ℝ) : EReal))
    (hY : ∀ (h : Fin 40) (y : Fin 128) (x : Fin 64), Y (ix3 h y x) = ((q.st h.val 16384 x y : ℝ) : EReal)) : Y = X := by
  funext i
  exact (congrArg Y (ix3_eta i).symm).trans (((hY (i 0) (i 1) (i 2)).trans (hX (i 0) (i 1) (i 2)).symm).trans (congrArg X (ix3_eta i)))

/-- The kernel and the reference agree over the reals. -/
theorem algebraic : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hm
  have hq : ∀ c : Dev Cert.KernelIdeal.nD, ArgsAre (Cert.Pre.seqs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := fun c =>
    letI := Cert.Pre_finite.Gen.facts
    Cert.Pre.args_are _ _ _ _ _ _ _ _ _ _ (hpre c).1 (hpre c).2.1 (hpre c).2.2.1 (hpre c).2.2.2.1 (hpre c).2.2.2.2.1 (hpre c).2.2.2.2.2.1 (hpre c).2.2.2.2.2.2.1 (hpre c).2.2.2.2.2.2.2.1 (hpre c).2.2.2.2.2.2.2.2.1 (hpre c).2.2.2.2.2.2.2.2.2
  have hq' : ∀ c : Dev Cert.ReferenceIdeal.nD, ArgsAre (Cert.Pre.seqs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) := fun c => by
    obtain ⟨e0, e1, e2, e3, e4, e5, e6, e7, e8, e9⟩ := hm c
    rw [e0, e1, e2, e3, e4, e5, e6, e7, e8, e9]
    exact hq c
  refine ⟨fun c => Cert.KernelIdeal.Value.G10 m c, fun c => Cert.KernelIdeal.Value.G11 m c, Cert.KernelIdeal.Value.run m g, ?_⟩
  refine (θ_run _ _ _).mono (fun r h c => ⟨(h c).1.trans ?_, (h c).2.1.trans ?_, (h c).2.2⟩) (Cert.ReferenceIdeal.Value.run_blocks m' g')
  · exact same_out _ _ (fun t h y => Cert.Head.out_eq m _ c (hq c) t h y) (fun t n => Cert.Ref.ref_out m' c (hq' c) t n)
  · exact same_st _ _ (fun h y x => Cert.Head.st_eq m _ c (hq c) h y x) (fun h y x => Cert.Ref.ref_st m' c (hq' c) h y x)

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Loops
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Gen.Pre_finite
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  Cert.Equal.algebraic⟩

end Cert.Proof

end
